-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S16384x1000 : Shape := ⟨2, ![16384, 1000]⟩
abbrev S16384x1 : Shape := ⟨2, ![16384, 1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn {F : FTy → Type} [FloatOps F] (main_arg0 : FVec F S16384x1000 .f32) (main_arg1 : IVec S16384x1 32) (main_arg2 : IVec S_ 32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg1 main_v0
  let main_c_0 : IVec S_ 1 := constantI S_ 1 1#1
  let main_v2 : IVec S_ 1 := (fun x v => Host.reduce IntOp.andi x v reducesTo_S16384x1_S_d0_1 h_S_) main_v1 main_c_0
  main_v2
-- ==== Kernel.lean ====
abbrev S16384x1000 : Shape := ⟨2, ![16384, 1000]⟩
abbrev S16384x1 : Shape := ⟨2, ![16384, 1]⟩
abbrev S_ : Shape := ⟨0, ![]⟩
abbrev S16384 : Shape := ⟨1, ![16384]⟩
abbrev S15x4x8x128 : Shape := ⟨4, ![15, 4, 8, 128]⟩
abbrev S125x128x8x128 : Shape := ⟨4, ![125, 128, 8, 128]⟩
abbrev S512 : Shape := ⟨1, ![512]⟩
abbrev S16 : Shape := ⟨1, ![16]⟩
abbrev S5x4x8x128 : Shape := ⟨4, ![5, 4, 8, 128]⟩
abbrev S128x128x125x8 : Shape := ⟨4, ![128, 128, 125, 8]⟩

abbrev nBuf : Table → Nat
  | .hbm => 9
  | .local .scVector .vmem => 3
  | _ => 0

abbrev bufTy : (tb : Table) → Fin (nBuf tb) → BufTy
  | .hbm, ⟨0, _⟩ => ⟨S16384x1000, .f32⟩
  | .hbm, ⟨1, _⟩ => ⟨S16384x1, .i32⟩
  | .hbm, ⟨2, _⟩ => ⟨S_, .i32⟩
  | .hbm, ⟨3, _⟩ => ⟨S16384, .i32⟩
  | .hbm, ⟨4, _⟩ => ⟨S_, .f32⟩
  | .hbm, ⟨5, _⟩ => ⟨S15x4x8x128, .f32⟩
  | .hbm, ⟨6, _⟩ => ⟨S125x128x8x128, .f32⟩
  | .hbm, ⟨7, _⟩ => ⟨S128x128x125x8, .f32⟩
  | .hbm, ⟨8, _⟩ => ⟨S16384x1000, .f32⟩
  | .local .scVector .vmem, ⟨0, _⟩ => ⟨S512, .i32⟩
  | .local .scVector .vmem, ⟨1, _⟩ => ⟨S15x4x8x128, .f32⟩
  | .local .scVector .vmem, ⟨2, _⟩ => ⟨S15x4x8x128, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
@[reducible] def k0_t1_loop : Scf.Loop 32 :=
  let c0_i32_2 : BitVec 32 := 0#32
  let c4_i32_3 : BitVec 32 := 4#32
  let v8 : BitVec 32 := Scalar.addi c0_i32_2 c4_i32_3
  let c1_i32 : BitVec 32 := 1#32
  ⟨c0_i32_2, v8, c1_i32⟩
def k0_off2 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk1 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx1_inb : ∀ (v74 : IVec S16 32) (v76 : IVec S16 32) (v80 : IVec S16 32) (v88 : IVec S16 32) (k0_hw1 : k0_chk1 v74 v76 v80 v88), ∀ a x, ((![v88, v76, v74, v80] : Fin 4 → IVec S16 32) a x).toNat < S15x4x8x128.size a := fun v74 v76 v80 v88 k0_hw1 => k0_hw1
def k0_off3 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_169 : BitVec 32 := 8#32
  let v89 : BitVec 32 := Scalar.muli arg12 c8_i32_169
  let c1_i32_170 : BitVec 32 := 1#32
  let v90 : BitVec 32 := Scalar.addi v89 c1_i32_170
  let c16_i32_171 : BitVec 32 := 16#32
  let v91 : BitVec 32 := Scalar.muli v90 c16_i32_171
  let v92 : Index := Scalar.indexCast v91
  ![v92.toNat]

def k0_chk2 (v97 : IVec S16 32) (v99 : IVec S16 32) (v103 : IVec S16 32) (v111 : IVec S16 32) : Prop :=
  (∀ a x, ((![v111, v99, v97, v103] : Fin 4 → IVec S16 32) a x).toNat < S15x4x8x128.size a)
theorem k0_idx2_inb : ∀ (v97 : IVec S16 32) (v99 : IVec S16 32) (v103 : IVec S16 32) (v111 : IVec S16 32) (k0_hw2 : k0_chk2 v97 v99 v103 v111), ∀ a x, ((![v111, v99, v97, v103] : Fin 4 → IVec S16 32) a x).toNat < S15x4x8x128.size a := fun v97 v99 v103 v111 k0_hw2 => k0_hw2
def k0_off4 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_180 : BitVec 32 := 8#32
  let v112 : BitVec 32 := Scalar.muli arg12 c8_i32_180
  let c2_i32 : BitVec 32 := 2#32
  let v113 : BitVec 32 := Scalar.addi v112 c2_i32
  let c16_i32_181 : BitVec 32 := 16#32
  let v114 : BitVec 32 := Scalar.muli v113 c16_i32_181
  let v115 : Index := Scalar.indexCast v114
  ![v115.toNat]

def k0_chk3 (v120 : IVec S16 32) (v122 : IVec S16 32) (v126 : IVec S16 32) (v134 : IVec S16 32) : Prop :=
  (∀ a x, ((![v134, v122, v120, v126] : Fin 4 → IVec S16 32) a x).toNat < S15x4x8x128.size a)
theorem k0_idx3_inb : ∀ (v120 : IVec S16 32) (v122 : IVec S16 32) (v126 : IVec S16 32) (v134 : IVec S16 32) (k0_hw3 : k0_chk3 v120 v122 v126 v134), ∀ a x, ((![v134, v122, v120, v126] : Fin 4 → IVec S16 32) a x).toNat < S15x4x8x128.size a := fun v120 v122 v126 v134 k0_hw3 => k0_hw3
def k0_off5 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_190 : BitVec 32 := 8#32
  let v135 : BitVec 32 := Scalar.muli arg12 c8_i32_190
  let c3_i32_191 : BitVec 32 := 3#32
  let v136 : BitVec 32 := Scalar.addi v135 c3_i32_191
  let c16_i32_192 : BitVec 32 := 16#32
  let v137 : BitVec 32 := Scalar.muli v136 c16_i32_192
  let v138 : Index := Scalar.indexCast v137
  ![v138.toNat]

def k0_chk4 (v143 : IVec S16 32) (v145 : IVec S16 32) (v149 : IVec S16 32) (v157 : IVec S16 32) : Prop :=
  (∀ a x, ((![v157, v145, v143, v149] : Fin 4 → IVec S16 32) a x).toNat < S15x4x8x128.size a)
theorem k0_idx4_inb : ∀ (v143 : IVec S16 32) (v145 : IVec S16 32) (v149 : IVec S16 32) (v157 : IVec S16 32) (k0_hw4 : k0_chk4 v143 v145 v149 v157), ∀ a x, ((![v157, v145, v143, v149] : Fin 4 → IVec S16 32) a x).toNat < S15x4x8x128.size a := fun v143 v145 v149 v157 k0_hw4 => k0_hw4
def k0_off6 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_201 : BitVec 32 := 8#32
  let v158 : BitVec 32 := Scalar.muli arg12 c8_i32_201
  let c4_i32_202 : BitVec 32 := 4#32
  let v159 : BitVec 32 := Scalar.addi v158 c4_i32_202
  let c16_i32_203 : BitVec 32 := 16#32
  let v160 : BitVec 32 := Scalar.muli v159 c16_i32_203
  let v161 : Index := Scalar.indexCast v160
  ![v161.toNat]

def k0_chk5 (v166 : IVec S16 32) (v168 : IVec S16 32) (v172 : IVec S16 32) (v180 : IVec S16 32) : Prop :=
  (∀ a x, ((![v180, v168, v166, v172] : Fin 4 → IVec S16 32) a x).toNat < S15x4x8x128.size a)
theorem k0_idx5_inb : ∀ (v166 : IVec S16 32) (v168 : IVec S16 32) (v172 : IVec S16 32) (v180 : IVec S16 32) (k0_hw5 : k0_chk5 v166 v168 v172 v180), ∀ a x, ((![v180, v168, v166, v172] : Fin 4 → IVec S16 32) a x).toNat < S15x4x8x128.size a := fun v166 v168 v172 v180 k0_hw5 => k0_hw5
def k0_off7 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_212 : BitVec 32 := 8#32
  let v181 : BitVec 32 := Scalar.muli arg12 c8_i32_212
  let c5_i32 : BitVec 32 := 5#32
  let v182 : BitVec 32 := Scalar.addi v181 c5_i32
  let c16_i32_213 : BitVec 32 := 16#32
  let v183 : BitVec 32 := Scalar.muli v182 c16_i32_213
  let v184 : Index := Scalar.indexCast v183
  ![v184.toNat]

def k0_chk6 (v189 : IVec S16 32) (v191 : IVec S16 32) (v195 : IVec S16 32) (v203 : IVec S16 32) : Prop :=
  (∀ a x, ((![v203, v191, v189, v195] : Fin 4 → IVec S16 32) a x).toNat < S15x4x8x128.size a)
theorem k0_idx6_inb : ∀ (v189 : IVec S16 32) (v191 : IVec S16 32) (v195 : IVec S16 32) (v203 : IVec S16 32) (k0_hw6 : k0_chk6 v189 v191 v195 v203), ∀ a x, ((![v203, v191, v189, v195] : Fin 4 → IVec S16 32) a x).toNat < S15x4x8x128.size a := fun v189 v191 v195 v203 k0_hw6 => k0_hw6
def k0_off8 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_222 : BitVec 32 := 8#32
  let v204 : BitVec 32 := Scalar.muli arg12 c8_i32_222
  let c6_i32 : BitVec 32 := 6#32
  let v205 : BitVec 32 := Scalar.addi v204 c6_i32
  let c16_i32_223 : BitVec 32 := 16#32
  let v206 : BitVec 32 := Scalar.muli v205 c16_i32_223
  let v207 : Index := Scalar.indexCast v206
  ![v207.toNat]

def k0_chk7 (v212 : IVec S16 32) (v214 : IVec S16 32) (v218 : IVec S16 32) (v226 : IVec S16 32) : Prop :=
  (∀ a x, ((![v226, v214, v212, v218] : Fin 4 → IVec S16 32) a x).toNat < S15x4x8x128.size a)
theorem k0_idx7_inb : ∀ (v212 : IVec S16 32) (v214 : IVec S16 32) (v218 : IVec S16 32) (v226 : IVec S16 32) (k0_hw7 : k0_chk7 v212 v214 v218 v226), ∀ a x, ((![v226, v214, v212, v218] : Fin 4 → IVec S16 32) a x).toNat < S15x4x8x128.size a := fun v212 v214 v218 v226 k0_hw7 => k0_hw7
def k0_off9 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c8_i32_232 : BitVec 32 := 8#32
  let v227 : BitVec 32 := Scalar.muli arg12 c8_i32_232
  let c7_i32_233 : BitVec 32 := 7#32
  let v228 : BitVec 32 := Scalar.addi v227 c7_i32_233
  let c16_i32_234 : BitVec 32 := 16#32
  let v229 : BitVec 32 := Scalar.muli v228 c16_i32_234
  let v230 : Index := Scalar.indexCast v229
  ![v230.toNat]

def k0_chk8 (v235 : IVec S16 32) (v237 : IVec S16 32) (v241 : IVec S16 32) (v249 : IVec S16 32) : Prop :=
  (∀ a x, ((![v249, v237, v235, v241] : Fin 4 → IVec S16 32) a x).toNat < S15x4x8x128.size a)
theorem k0_idx8_inb : ∀ (v235 : IVec S16 32) (v237 : IVec S16 32) (v241 : IVec S16 32) (v249 : IVec S16 32) (k0_hw8 : k0_chk8 v235 v237 v241 v249), ∀ a x, ((![v249, v237, v235, v241] : Fin 4 → IVec S16 32) a x).toNat < S15x4x8x128.size a := fun v235 v237 v241 v249 k0_hw8 => k0_hw8
def k0_off10 (i : grid0.Coords) : Fin 4 → Nat :=
  let c0_i32_5 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_6 : BitVec 32 := 0#32
  let c0_i32_7 : BitVec 32 := 0#32
  ![0, v3.toNat, 0, 0]
@[reducible] def k0_t2_loop : Scf.Loop 32 :=
  let c0_i32_12 : BitVec 32 := 0#32
  let c4_i32_13 : BitVec 32 := 4#32
  let v12 : BitVec 32 := Scalar.addi c0_i32_12 c4_i32_13
  let c1_i32_14 : BitVec 32 := 1#32
  ⟨c0_i32_12, v12, c1_i32_14⟩
def k0_off11 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk9 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx9_inb : ∀ (v74 : IVec S16 32) (v76 : IVec S16 32) (v80 : IVec S16 32) (v88 : IVec S16 32) (k0_hw9 : k0_chk9 v74 v76 v80 v88), ∀ a x, ((![v88, v76, v74, v80] : Fin 4 → IVec S16 32) a x).toNat < S15x4x8x128.size a := fun v74 v76 v80 v88 k0_hw9 => k0_hw9
def k0_off12 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_168 : BitVec 32 := 8#32
  let v89 : BitVec 32 := Scalar.muli arg12 c8_i32_168
  let c1_i32_169 : BitVec 32 := 1#32
  let v90 : BitVec 32 := Scalar.addi v89 c1_i32_169
  let c16_i32_170 : BitVec 32 := 16#32
  let v91 : BitVec 32 := Scalar.muli v90 c16_i32_170
  let v92 : Index := Scalar.indexCast v91
  ![v92.toNat]

def k0_chk10 (v97 : IVec S16 32) (v99 : IVec S16 32) (v103 : IVec S16 32) (v111 : IVec S16 32) : Prop :=
  (∀ a x, ((![v111, v99, v97, v103] : Fin 4 → IVec S16 32) a x).toNat < S15x4x8x128.size a)
theorem k0_idx10_inb : ∀ (v97 : IVec S16 32) (v99 : IVec S16 32) (v103 : IVec S16 32) (v111 : IVec S16 32) (k0_hw10 : k0_chk10 v97 v99 v103 v111), ∀ a x, ((![v111, v99, v97, v103] : Fin 4 → IVec S16 32) a x).toNat < S15x4x8x128.size a := fun v97 v99 v103 v111 k0_hw10 => k0_hw10
def k0_off13 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_179 : BitVec 32 := 8#32
  let v112 : BitVec 32 := Scalar.muli arg12 c8_i32_179
  let c2_i32 : BitVec 32 := 2#32
  let v113 : BitVec 32 := Scalar.addi v112 c2_i32
  let c16_i32_180 : BitVec 32 := 16#32
  let v114 : BitVec 32 := Scalar.muli v113 c16_i32_180
  let v115 : Index := Scalar.indexCast v114
  ![v115.toNat]

def k0_chk11 (v120 : IVec S16 32) (v122 : IVec S16 32) (v126 : IVec S16 32) (v134 : IVec S16 32) : Prop :=
  (∀ a x, ((![v134, v122, v120, v126] : Fin 4 → IVec S16 32) a x).toNat < S15x4x8x128.size a)
theorem k0_idx11_inb : ∀ (v120 : IVec S16 32) (v122 : IVec S16 32) (v126 : IVec S16 32) (v134 : IVec S16 32) (k0_hw11 : k0_chk11 v120 v122 v126 v134), ∀ a x, ((![v134, v122, v120, v126] : Fin 4 → IVec S16 32) a x).toNat < S15x4x8x128.size a := fun v120 v122 v126 v134 k0_hw11 => k0_hw11
def k0_off14 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_189 : BitVec 32 := 8#32
  let v135 : BitVec 32 := Scalar.muli arg12 c8_i32_189
  let c3_i32_190 : BitVec 32 := 3#32
  let v136 : BitVec 32 := Scalar.addi v135 c3_i32_190
  let c16_i32_191 : BitVec 32 := 16#32
  let v137 : BitVec 32 := Scalar.muli v136 c16_i32_191
  let v138 : Index := Scalar.indexCast v137
  ![v138.toNat]

def k0_chk12 (v143 : IVec S16 32) (v145 : IVec S16 32) (v149 : IVec S16 32) (v157 : IVec S16 32) : Prop :=
  (∀ a x, ((![v157, v145, v143, v149] : Fin 4 → IVec S16 32) a x).toNat < S15x4x8x128.size a)
theorem k0_idx12_inb : ∀ (v143 : IVec S16 32) (v145 : IVec S16 32) (v149 : IVec S16 32) (v157 : IVec S16 32) (k0_hw12 : k0_chk12 v143 v145 v149 v157), ∀ a x, ((![v157, v145, v143, v149] : Fin 4 → IVec S16 32) a x).toNat < S15x4x8x128.size a := fun v143 v145 v149 v157 k0_hw12 => k0_hw12
def k0_off15 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_200 : BitVec 32 := 8#32
  let v158 : BitVec 32 := Scalar.muli arg12 c8_i32_200
  let c4_i32_201 : BitVec 32 := 4#32
  let v159 : BitVec 32 := Scalar.addi v158 c4_i32_201
  let c16_i32_202 : BitVec 32 := 16#32
  let v160 : BitVec 32 := Scalar.muli v159 c16_i32_202
  let v161 : Index := Scalar.indexCast v160
  ![v161.toNat]

def k0_chk13 (v166 : IVec S16 32) (v168 : IVec S16 32) (v172 : IVec S16 32) (v180 : IVec S16 32) : Prop :=
  (∀ a x, ((![v180, v168, v166, v172] : Fin 4 → IVec S16 32) a x).toNat < S15x4x8x128.size a)
theorem k0_idx13_inb : ∀ (v166 : IVec S16 32) (v168 : IVec S16 32) (v172 : IVec S16 32) (v180 : IVec S16 32) (k0_hw13 : k0_chk13 v166 v168 v172 v180), ∀ a x, ((![v180, v168, v166, v172] : Fin 4 → IVec S16 32) a x).toNat < S15x4x8x128.size a := fun v166 v168 v172 v180 k0_hw13 => k0_hw13
def k0_off16 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_211 : BitVec 32 := 8#32
  let v181 : BitVec 32 := Scalar.muli arg12 c8_i32_211
  let c5_i32 : BitVec 32 := 5#32
  let v182 : BitVec 32 := Scalar.addi v181 c5_i32
  let c16_i32_212 : BitVec 32 := 16#32
  let v183 : BitVec 32 := Scalar.muli v182 c16_i32_212
  let v184 : Index := Scalar.indexCast v183
  ![v184.toNat]

def k0_chk14 (v189 : IVec S16 32) (v191 : IVec S16 32) (v195 : IVec S16 32) (v203 : IVec S16 32) : Prop :=
  (∀ a x, ((![v203, v191, v189, v195] : Fin 4 → IVec S16 32) a x).toNat < S15x4x8x128.size a)
theorem k0_idx14_inb : ∀ (v189 : IVec S16 32) (v191 : IVec S16 32) (v195 : IVec S16 32) (v203 : IVec S16 32) (k0_hw14 : k0_chk14 v189 v191 v195 v203), ∀ a x, ((![v203, v191, v189, v195] : Fin 4 → IVec S16 32) a x).toNat < S15x4x8x128.size a := fun v189 v191 v195 v203 k0_hw14 => k0_hw14
def k0_off17 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_221 : BitVec 32 := 8#32
  let v204 : BitVec 32 := Scalar.muli arg12 c8_i32_221
  let c6_i32 : BitVec 32 := 6#32
  let v205 : BitVec 32 := Scalar.addi v204 c6_i32
  let c16_i32_222 : BitVec 32 := 16#32
  let v206 : BitVec 32 := Scalar.muli v205 c16_i32_222
  let v207 : Index := Scalar.indexCast v206
  ![v207.toNat]

def k0_chk15 (v212 : IVec S16 32) (v214 : IVec S16 32) (v218 : IVec S16 32) (v226 : IVec S16 32) : Prop :=
  (∀ a x, ((![v226, v214, v212, v218] : Fin 4 → IVec S16 32) a x).toNat < S15x4x8x128.size a)
theorem k0_idx15_inb : ∀ (v212 : IVec S16 32) (v214 : IVec S16 32) (v218 : IVec S16 32) (v226 : IVec S16 32) (k0_hw15 : k0_chk15 v212 v214 v218 v226), ∀ a x, ((![v226, v214, v212, v218] : Fin 4 → IVec S16 32) a x).toNat < S15x4x8x128.size a := fun v212 v214 v218 v226 k0_hw15 => k0_hw15
def k0_off18 (k0_t2 : Fin k0_t2_loop.trips) : Fin 1 → Nat :=
  let c0_i32_12 : BitVec 32 := 0#32
  let c1_i32_14 : BitVec 32 := 1#32
  let arg12 : BitVec 32 := Scf.iv c0_i32_12 c1_i32_14 k0_t2
  let c8_i32_231 : BitVec 32 := 8#32
  let v227 : BitVec 32 := Scalar.muli arg12 c8_i32_231
  let c7_i32_232 : BitVec 32 := 7#32
  let v228 : BitVec 32 := Scalar.addi v227 c7_i32_232
  let c16_i32_233 : BitVec 32 := 16#32
  let v229 : BitVec 32 := Scalar.muli v228 c16_i32_233
  let v230 : Index := Scalar.indexCast v229
  ![v230.toNat]

def k0_chk16 (v235 : IVec S16 32) (v237 : IVec S16 32) (v241 : IVec S16 32) (v249 : IVec S16 32) : Prop :=
  (∀ a x, ((![v249, v237, v235, v241] : Fin 4 → IVec S16 32) a x).toNat < S15x4x8x128.size a)
theorem k0_idx16_inb : ∀ (v235 : IVec S16 32) (v237 : IVec S16 32) (v241 : IVec S16 32) (v249 : IVec S16 32) (k0_hw16 : k0_chk16 v235 v237 v241 v249), ∀ a x, ((![v249, v237, v235, v241] : Fin 4 → IVec S16 32) a x).toNat < S15x4x8x128.size a := fun v235 v237 v241 v249 k0_hw16 => k0_hw16
def k0_off19 (i : grid0.Coords) : Fin 4 → Nat :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_16 : BitVec 32 := 0#32
  let c0_i32_17 : BitVec 32 := 0#32
  ![15, v3.toNat, 0, 0]
@[reducible] def k0_t3_loop : Scf.Loop 32 :=
  let c0_i32_28 : BitVec 32 := 0#32
  let c4_i32_29 : BitVec 32 := 4#32
  let v18 : BitVec 32 := Scalar.addi c0_i32_28 c4_i32_29
  let c1_i32_30 : BitVec 32 := 1#32
  ⟨c0_i32_28, v18, c1_i32_30⟩
def k0_off20 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk17 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx17_inb : ∀ (v74 : IVec S16 32) (v76 : IVec S16 32) (v80 : IVec S16 32) (v88 : IVec S16 32) (k0_hw17 : k0_chk17 v74 v76 v80 v88), ∀ a x, ((![v88, v76, v74, v80] : Fin 4 → IVec S16 32) a x).toNat < S15x4x8x128.size a := fun v74 v76 v80 v88 k0_hw17 => k0_hw17

def k0_chk18 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx18_inb : ∀ (v74 : IVec S16 32) (v76 : IVec S16 32) (v80 : IVec S16 32) (v96 : IVec S16 32) (k0_hw18 : k0_chk18 v74 v76 v80 v96), ∀ a x, ((![v96, v76, v74, v80] : Fin 4 → IVec S16 32) a x).toNat < S15x4x8x128.size a := fun v74 v76 v80 v96 k0_hw18 => k0_hw18
def k0_off21 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_170 : BitVec 32 := 8#32
  let v97 : BitVec 32 := Scalar.muli arg12 c8_i32_170
  let c1_i32_171 : BitVec 32 := 1#32
  let v98 : BitVec 32 := Scalar.addi v97 c1_i32_171
  let c16_i32_172 : BitVec 32 := 16#32
  let v99 : BitVec 32 := Scalar.muli v98 c16_i32_172
  let v100 : Index := Scalar.indexCast v99
  ![v100.toNat]

def k0_chk19 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx19_inb : ∀ (v105 : IVec S16 32) (v107 : IVec S16 32) (v111 : IVec S16 32) (v119 : IVec S16 32) (k0_hw19 : k0_chk19 v105 v107 v111 v119), ∀ a x, ((![v119, v107, v105, v111] : Fin 4 → IVec S16 32) a x).toNat < S15x4x8x128.size a := fun v105 v107 v111 v119 k0_hw19 => k0_hw19

def k0_chk20 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx20_inb : ∀ (v105 : IVec S16 32) (v107 : IVec S16 32) (v111 : IVec S16 32) (v127 : IVec S16 32) (k0_hw20 : k0_chk20 v105 v107 v111 v127), ∀ a x, ((![v127, v107, v105, v111] : Fin 4 → IVec S16 32) a x).toNat < S15x4x8x128.size a := fun v105 v107 v111 v127 k0_hw20 => k0_hw20
def k0_off22 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_184 : BitVec 32 := 8#32
  let v128 : BitVec 32 := Scalar.muli arg12 c8_i32_184
  let c2_i32 : BitVec 32 := 2#32
  let v129 : BitVec 32 := Scalar.addi v128 c2_i32
  let c16_i32_185 : BitVec 32 := 16#32
  let v130 : BitVec 32 := Scalar.muli v129 c16_i32_185
  let v131 : Index := Scalar.indexCast v130
  ![v131.toNat]

def k0_chk21 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx21_inb : ∀ (v136 : IVec S16 32) (v138 : IVec S16 32) (v142 : IVec S16 32) (v150 : IVec S16 32) (k0_hw21 : k0_chk21 v136 v138 v142 v150), ∀ a x, ((![v150, v138, v136, v142] : Fin 4 → IVec S16 32) a x).toNat < S15x4x8x128.size a := fun v136 v138 v142 v150 k0_hw21 => k0_hw21

def k0_chk22 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx22_inb : ∀ (v136 : IVec S16 32) (v138 : IVec S16 32) (v142 : IVec S16 32) (v158 : IVec S16 32) (k0_hw22 : k0_chk22 v136 v138 v142 v158), ∀ a x, ((![v158, v138, v136, v142] : Fin 4 → IVec S16 32) a x).toNat < S15x4x8x128.size a := fun v136 v138 v142 v158 k0_hw22 => k0_hw22
def k0_off23 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_197 : BitVec 32 := 8#32
  let v159 : BitVec 32 := Scalar.muli arg12 c8_i32_197
  let c3_i32_198 : BitVec 32 := 3#32
  let v160 : BitVec 32 := Scalar.addi v159 c3_i32_198
  let c16_i32_199 : BitVec 32 := 16#32
  let v161 : BitVec 32 := Scalar.muli v160 c16_i32_199
  let v162 : Index := Scalar.indexCast v161
  ![v162.toNat]

def k0_chk23 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx23_inb : ∀ (v167 : IVec S16 32) (v169 : IVec S16 32) (v173 : IVec S16 32) (v181 : IVec S16 32) (k0_hw23 : k0_chk23 v167 v169 v173 v181), ∀ a x, ((![v181, v169, v167, v173] : Fin 4 → IVec S16 32) a x).toNat < S15x4x8x128.size a := fun v167 v169 v173 v181 k0_hw23 => k0_hw23

def k0_chk24 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx24_inb : ∀ (v167 : IVec S16 32) (v169 : IVec S16 32) (v173 : IVec S16 32) (v189 : IVec S16 32) (k0_hw24 : k0_chk24 v167 v169 v173 v189), ∀ a x, ((![v189, v169, v167, v173] : Fin 4 → IVec S16 32) a x).toNat < S15x4x8x128.size a := fun v167 v169 v173 v189 k0_hw24 => k0_hw24
def k0_off24 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_211 : BitVec 32 := 8#32
  let v190 : BitVec 32 := Scalar.muli arg12 c8_i32_211
  let c4_i32_212 : BitVec 32 := 4#32
  let v191 : BitVec 32 := Scalar.addi v190 c4_i32_212
  let c16_i32_213 : BitVec 32 := 16#32
  let v192 : BitVec 32 := Scalar.muli v191 c16_i32_213
  let v193 : Index := Scalar.indexCast v192
  ![v193.toNat]

def k0_chk25 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx25_inb : ∀ (v198 : IVec S16 32) (v200 : IVec S16 32) (v204 : IVec S16 32) (v212 : IVec S16 32) (k0_hw25 : k0_chk25 v198 v200 v204 v212), ∀ a x, ((![v212, v200, v198, v204] : Fin 4 → IVec S16 32) a x).toNat < S15x4x8x128.size a := fun v198 v200 v204 v212 k0_hw25 => k0_hw25

def k0_chk26 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx26_inb : ∀ (v198 : IVec S16 32) (v200 : IVec S16 32) (v204 : IVec S16 32) (v220 : IVec S16 32) (k0_hw26 : k0_chk26 v198 v200 v204 v220), ∀ a x, ((![v220, v200, v198, v204] : Fin 4 → IVec S16 32) a x).toNat < S15x4x8x128.size a := fun v198 v200 v204 v220 k0_hw26 => k0_hw26
def k0_off25 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_225 : BitVec 32 := 8#32
  let v221 : BitVec 32 := Scalar.muli arg12 c8_i32_225
  let c5_i32 : BitVec 32 := 5#32
  let v222 : BitVec 32 := Scalar.addi v221 c5_i32
  let c16_i32_226 : BitVec 32 := 16#32
  let v223 : BitVec 32 := Scalar.muli v222 c16_i32_226
  let v224 : Index := Scalar.indexCast v223
  ![v224.toNat]

def k0_chk27 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx27_inb : ∀ (v229 : IVec S16 32) (v231 : IVec S16 32) (v235 : IVec S16 32) (v243 : IVec S16 32) (k0_hw27 : k0_chk27 v229 v231 v235 v243), ∀ a x, ((![v243, v231, v229, v235] : Fin 4 → IVec S16 32) a x).toNat < S15x4x8x128.size a := fun v229 v231 v235 v243 k0_hw27 => k0_hw27

def k0_chk28 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx28_inb : ∀ (v229 : IVec S16 32) (v231 : IVec S16 32) (v235 : IVec S16 32) (v251 : IVec S16 32) (k0_hw28 : k0_chk28 v229 v231 v235 v251), ∀ a x, ((![v251, v231, v229, v235] : Fin 4 → IVec S16 32) a x).toNat < S15x4x8x128.size a := fun v229 v231 v235 v251 k0_hw28 => k0_hw28
def k0_off26 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_238 : BitVec 32 := 8#32
  let v252 : BitVec 32 := Scalar.muli arg12 c8_i32_238
  let c6_i32 : BitVec 32 := 6#32
  let v253 : BitVec 32 := Scalar.addi v252 c6_i32
  let c16_i32_239 : BitVec 32 := 16#32
  let v254 : BitVec 32 := Scalar.muli v253 c16_i32_239
  let v255 : Index := Scalar.indexCast v254
  ![v255.toNat]

def k0_chk29 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx29_inb : ∀ (v260 : IVec S16 32) (v262 : IVec S16 32) (v266 : IVec S16 32) (v274 : IVec S16 32) (k0_hw29 : k0_chk29 v260 v262 v266 v274), ∀ a x, ((![v274, v262, v260, v266] : Fin 4 → IVec S16 32) a x).toNat < S15x4x8x128.size a := fun v260 v262 v266 v274 k0_hw29 => k0_hw29

def k0_chk30 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx30_inb : ∀ (v260 : IVec S16 32) (v262 : IVec S16 32) (v266 : IVec S16 32) (v282 : IVec S16 32) (k0_hw30 : k0_chk30 v260 v262 v266 v282), ∀ a x, ((![v282, v262, v260, v266] : Fin 4 → IVec S16 32) a x).toNat < S15x4x8x128.size a := fun v260 v262 v266 v282 k0_hw30 => k0_hw30
def k0_off27 (k0_t3 : Fin k0_t3_loop.trips) : Fin 1 → Nat :=
  let c0_i32_28 : BitVec 32 := 0#32
  let c1_i32_30 : BitVec 32 := 1#32
  let arg12 : BitVec 32 := Scf.iv c0_i32_28 c1_i32_30 k0_t3
  let c8_i32_251 : BitVec 32 := 8#32
  let v283 : BitVec 32 := Scalar.muli arg12 c8_i32_251
  let c7_i32_252 : BitVec 32 := 7#32
  let v284 : BitVec 32 := Scalar.addi v283 c7_i32_252
  let c16_i32_253 : BitVec 32 := 16#32
  let v285 : BitVec 32 := Scalar.muli v284 c16_i32_253
  let v286 : Index := Scalar.indexCast v285
  ![v286.toNat]

def k0_chk31 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx31_inb : ∀ (v291 : IVec S16 32) (v293 : IVec S16 32) (v297 : IVec S16 32) (v305 : IVec S16 32) (k0_hw31 : k0_chk31 v291 v293 v297 v305), ∀ a x, ((![v305, v293, v291, v297] : Fin 4 → IVec S16 32) a x).toNat < S15x4x8x128.size a := fun v291 v293 v297 v305 k0_hw31 => k0_hw31

def k0_chk32 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx32_inb : ∀ (v291 : IVec S16 32) (v293 : IVec S16 32) (v297 : IVec S16 32) (v313 : IVec S16 32) (k0_hw32 : k0_chk32 v291 v293 v297 v313), ∀ a x, ((![v313, v293, v291, v297] : Fin 4 → IVec S16 32) a x).toNat < S15x4x8x128.size a := fun v291 v293 v297 v313 k0_hw32 => k0_hw32
def k0_off28 (i : grid0.Coords) : Fin 4 → Nat :=
  let c30_i32 : BitVec 32 := 30#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_32 : BitVec 32 := 0#32
  let c0_i32_33 : BitVec 32 := 0#32
  ![30, v3.toNat, 0, 0]
@[reducible] def k0_t4_loop : Scf.Loop 32 :=
  let c0_i32_44 : BitVec 32 := 0#32
  let c4_i32_45 : BitVec 32 := 4#32
  let v24 : BitVec 32 := Scalar.addi c0_i32_44 c4_i32_45
  let c1_i32_46 : BitVec 32 := 1#32
  ⟨c0_i32_44, v24, c1_i32_46⟩
def k0_off29 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk33 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx33_inb : ∀ (v74 : IVec S16 32) (v76 : IVec S16 32) (v80 : IVec S16 32) (v88 : IVec S16 32) (k0_hw33 : k0_chk33 v74 v76 v80 v88), ∀ a x, ((![v88, v76, v74, v80] : Fin 4 → IVec S16 32) a x).toNat < S15x4x8x128.size a := fun v74 v76 v80 v88 k0_hw33 => k0_hw33

def k0_chk34 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx34_inb : ∀ (v74 : IVec S16 32) (v76 : IVec S16 32) (v80 : IVec S16 32) (v96 : IVec S16 32) (k0_hw34 : k0_chk34 v74 v76 v80 v96), ∀ a x, ((![v96, v76, v74, v80] : Fin 4 → IVec S16 32) a x).toNat < S15x4x8x128.size a := fun v74 v76 v80 v96 k0_hw34 => k0_hw34
def k0_off30 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_169 : BitVec 32 := 8#32
  let v97 : BitVec 32 := Scalar.muli arg12 c8_i32_169
  let c1_i32_170 : BitVec 32 := 1#32
  let v98 : BitVec 32 := Scalar.addi v97 c1_i32_170
  let c16_i32_171 : BitVec 32 := 16#32
  let v99 : BitVec 32 := Scalar.muli v98 c16_i32_171
  let v100 : Index := Scalar.indexCast v99
  ![v100.toNat]

def k0_chk35 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx35_inb : ∀ (v105 : IVec S16 32) (v107 : IVec S16 32) (v111 : IVec S16 32) (v119 : IVec S16 32) (k0_hw35 : k0_chk35 v105 v107 v111 v119), ∀ a x, ((![v119, v107, v105, v111] : Fin 4 → IVec S16 32) a x).toNat < S15x4x8x128.size a := fun v105 v107 v111 v119 k0_hw35 => k0_hw35

def k0_chk36 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx36_inb : ∀ (v105 : IVec S16 32) (v107 : IVec S16 32) (v111 : IVec S16 32) (v127 : IVec S16 32) (k0_hw36 : k0_chk36 v105 v107 v111 v127), ∀ a x, ((![v127, v107, v105, v111] : Fin 4 → IVec S16 32) a x).toNat < S15x4x8x128.size a := fun v105 v107 v111 v127 k0_hw36 => k0_hw36
def k0_off31 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_183 : BitVec 32 := 8#32
  let v128 : BitVec 32 := Scalar.muli arg12 c8_i32_183
  let c2_i32 : BitVec 32 := 2#32
  let v129 : BitVec 32 := Scalar.addi v128 c2_i32
  let c16_i32_184 : BitVec 32 := 16#32
  let v130 : BitVec 32 := Scalar.muli v129 c16_i32_184
  let v131 : Index := Scalar.indexCast v130
  ![v131.toNat]

def k0_chk37 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx37_inb : ∀ (v136 : IVec S16 32) (v138 : IVec S16 32) (v142 : IVec S16 32) (v150 : IVec S16 32) (k0_hw37 : k0_chk37 v136 v138 v142 v150), ∀ a x, ((![v150, v138, v136, v142] : Fin 4 → IVec S16 32) a x).toNat < S15x4x8x128.size a := fun v136 v138 v142 v150 k0_hw37 => k0_hw37

def k0_chk38 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx38_inb : ∀ (v136 : IVec S16 32) (v138 : IVec S16 32) (v142 : IVec S16 32) (v158 : IVec S16 32) (k0_hw38 : k0_chk38 v136 v138 v142 v158), ∀ a x, ((![v158, v138, v136, v142] : Fin 4 → IVec S16 32) a x).toNat < S15x4x8x128.size a := fun v136 v138 v142 v158 k0_hw38 => k0_hw38
def k0_off32 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_196 : BitVec 32 := 8#32
  let v159 : BitVec 32 := Scalar.muli arg12 c8_i32_196
  let c3_i32_197 : BitVec 32 := 3#32
  let v160 : BitVec 32 := Scalar.addi v159 c3_i32_197
  let c16_i32_198 : BitVec 32 := 16#32
  let v161 : BitVec 32 := Scalar.muli v160 c16_i32_198
  let v162 : Index := Scalar.indexCast v161
  ![v162.toNat]

def k0_chk39 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx39_inb : ∀ (v167 : IVec S16 32) (v169 : IVec S16 32) (v173 : IVec S16 32) (v181 : IVec S16 32) (k0_hw39 : k0_chk39 v167 v169 v173 v181), ∀ a x, ((![v181, v169, v167, v173] : Fin 4 → IVec S16 32) a x).toNat < S15x4x8x128.size a := fun v167 v169 v173 v181 k0_hw39 => k0_hw39

def k0_chk40 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx40_inb : ∀ (v167 : IVec S16 32) (v169 : IVec S16 32) (v173 : IVec S16 32) (v189 : IVec S16 32) (k0_hw40 : k0_chk40 v167 v169 v173 v189), ∀ a x, ((![v189, v169, v167, v173] : Fin 4 → IVec S16 32) a x).toNat < S15x4x8x128.size a := fun v167 v169 v173 v189 k0_hw40 => k0_hw40
def k0_off33 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_210 : BitVec 32 := 8#32
  let v190 : BitVec 32 := Scalar.muli arg12 c8_i32_210
  let c4_i32_211 : BitVec 32 := 4#32
  let v191 : BitVec 32 := Scalar.addi v190 c4_i32_211
  let c16_i32_212 : BitVec 32 := 16#32
  let v192 : BitVec 32 := Scalar.muli v191 c16_i32_212
  let v193 : Index := Scalar.indexCast v192
  ![v193.toNat]

def k0_chk41 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx41_inb : ∀ (v198 : IVec S16 32) (v200 : IVec S16 32) (v204 : IVec S16 32) (v212 : IVec S16 32) (k0_hw41 : k0_chk41 v198 v200 v204 v212), ∀ a x, ((![v212, v200, v198, v204] : Fin 4 → IVec S16 32) a x).toNat < S15x4x8x128.size a := fun v198 v200 v204 v212 k0_hw41 => k0_hw41

def k0_chk42 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx42_inb : ∀ (v198 : IVec S16 32) (v200 : IVec S16 32) (v204 : IVec S16 32) (v220 : IVec S16 32) (k0_hw42 : k0_chk42 v198 v200 v204 v220), ∀ a x, ((![v220, v200, v198, v204] : Fin 4 → IVec S16 32) a x).toNat < S15x4x8x128.size a := fun v198 v200 v204 v220 k0_hw42 => k0_hw42
def k0_off34 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_224 : BitVec 32 := 8#32
  let v221 : BitVec 32 := Scalar.muli arg12 c8_i32_224
  let c5_i32 : BitVec 32 := 5#32
  let v222 : BitVec 32 := Scalar.addi v221 c5_i32
  let c16_i32_225 : BitVec 32 := 16#32
  let v223 : BitVec 32 := Scalar.muli v222 c16_i32_225
  let v224 : Index := Scalar.indexCast v223
  ![v224.toNat]

def k0_chk43 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx43_inb : ∀ (v229 : IVec S16 32) (v231 : IVec S16 32) (v235 : IVec S16 32) (v243 : IVec S16 32) (k0_hw43 : k0_chk43 v229 v231 v235 v243), ∀ a x, ((![v243, v231, v229, v235] : Fin 4 → IVec S16 32) a x).toNat < S15x4x8x128.size a := fun v229 v231 v235 v243 k0_hw43 => k0_hw43

def k0_chk44 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx44_inb : ∀ (v229 : IVec S16 32) (v231 : IVec S16 32) (v235 : IVec S16 32) (v251 : IVec S16 32) (k0_hw44 : k0_chk44 v229 v231 v235 v251), ∀ a x, ((![v251, v231, v229, v235] : Fin 4 → IVec S16 32) a x).toNat < S15x4x8x128.size a := fun v229 v231 v235 v251 k0_hw44 => k0_hw44
def k0_off35 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_237 : BitVec 32 := 8#32
  let v252 : BitVec 32 := Scalar.muli arg12 c8_i32_237
  let c6_i32 : BitVec 32 := 6#32
  let v253 : BitVec 32 := Scalar.addi v252 c6_i32
  let c16_i32_238 : BitVec 32 := 16#32
  let v254 : BitVec 32 := Scalar.muli v253 c16_i32_238
  let v255 : Index := Scalar.indexCast v254
  ![v255.toNat]

def k0_chk45 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx45_inb : ∀ (v260 : IVec S16 32) (v262 : IVec S16 32) (v266 : IVec S16 32) (v274 : IVec S16 32) (k0_hw45 : k0_chk45 v260 v262 v266 v274), ∀ a x, ((![v274, v262, v260, v266] : Fin 4 → IVec S16 32) a x).toNat < S15x4x8x128.size a := fun v260 v262 v266 v274 k0_hw45 => k0_hw45

def k0_chk46 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx46_inb : ∀ (v260 : IVec S16 32) (v262 : IVec S16 32) (v266 : IVec S16 32) (v282 : IVec S16 32) (k0_hw46 : k0_chk46 v260 v262 v266 v282), ∀ a x, ((![v282, v262, v260, v266] : Fin 4 → IVec S16 32) a x).toNat < S15x4x8x128.size a := fun v260 v262 v266 v282 k0_hw46 => k0_hw46
def k0_off36 (k0_t4 : Fin k0_t4_loop.trips) : Fin 1 → Nat :=
  let c0_i32_44 : BitVec 32 := 0#32
  let c1_i32_46 : BitVec 32 := 1#32
  let arg12 : BitVec 32 := Scf.iv c0_i32_44 c1_i32_46 k0_t4
  let c8_i32_250 : BitVec 32 := 8#32
  let v283 : BitVec 32 := Scalar.muli arg12 c8_i32_250
  let c7_i32_251 : BitVec 32 := 7#32
  let v284 : BitVec 32 := Scalar.addi v283 c7_i32_251
  let c16_i32_252 : BitVec 32 := 16#32
  let v285 : BitVec 32 := Scalar.muli v284 c16_i32_252
  let v286 : Index := Scalar.indexCast v285
  ![v286.toNat]

def k0_chk47 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx47_inb : ∀ (v291 : IVec S16 32) (v293 : IVec S16 32) (v297 : IVec S16 32) (v305 : IVec S16 32) (k0_hw47 : k0_chk47 v291 v293 v297 v305), ∀ a x, ((![v305, v293, v291, v297] : Fin 4 → IVec S16 32) a x).toNat < S15x4x8x128.size a := fun v291 v293 v297 v305 k0_hw47 => k0_hw47

def k0_chk48 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx48_inb : ∀ (v291 : IVec S16 32) (v293 : IVec S16 32) (v297 : IVec S16 32) (v313 : IVec S16 32) (k0_hw48 : k0_chk48 v291 v293 v297 v313), ∀ a x, ((![v313, v293, v291, v297] : Fin 4 → IVec S16 32) a x).toNat < S15x4x8x128.size a := fun v291 v293 v297 v313 k0_hw48 => k0_hw48
def k0_off37 (i : grid0.Coords) : Fin 4 → Nat :=
  let c45_i32 : BitVec 32 := 45#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_48 : BitVec 32 := 0#32
  let c0_i32_49 : BitVec 32 := 0#32
  ![45, v3.toNat, 0, 0]
@[reducible] def k0_t5_loop : Scf.Loop 32 :=
  let c0_i32_60 : BitVec 32 := 0#32
  let c4_i32_61 : BitVec 32 := 4#32
  let v30 : BitVec 32 := Scalar.addi c0_i32_60 c4_i32_61
  let c1_i32_62 : BitVec 32 := 1#32
  ⟨c0_i32_60, v30, c1_i32_62⟩
def k0_off38 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk49 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx49_inb : ∀ (v74 : IVec S16 32) (v76 : IVec S16 32) (v80 : IVec S16 32) (v88 : IVec S16 32) (k0_hw49 : k0_chk49 v74 v76 v80 v88), ∀ a x, ((![v88, v76, v74, v80] : Fin 4 → IVec S16 32) a x).toNat < S15x4x8x128.size a := fun v74 v76 v80 v88 k0_hw49 => k0_hw49

def k0_chk50 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx50_inb : ∀ (v74 : IVec S16 32) (v76 : IVec S16 32) (v80 : IVec S16 32) (v96 : IVec S16 32) (k0_hw50 : k0_chk50 v74 v76 v80 v96), ∀ a x, ((![v96, v76, v74, v80] : Fin 4 → IVec S16 32) a x).toNat < S15x4x8x128.size a := fun v74 v76 v80 v96 k0_hw50 => k0_hw50
def k0_off39 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_168 : BitVec 32 := 8#32
  let v97 : BitVec 32 := Scalar.muli arg12 c8_i32_168
  let c1_i32_169 : BitVec 32 := 1#32
  let v98 : BitVec 32 := Scalar.addi v97 c1_i32_169
  let c16_i32_170 : BitVec 32 := 16#32
  let v99 : BitVec 32 := Scalar.muli v98 c16_i32_170
  let v100 : Index := Scalar.indexCast v99
  ![v100.toNat]

def k0_chk51 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx51_inb : ∀ (v105 : IVec S16 32) (v107 : IVec S16 32) (v111 : IVec S16 32) (v119 : IVec S16 32) (k0_hw51 : k0_chk51 v105 v107 v111 v119), ∀ a x, ((![v119, v107, v105, v111] : Fin 4 → IVec S16 32) a x).toNat < S15x4x8x128.size a := fun v105 v107 v111 v119 k0_hw51 => k0_hw51

def k0_chk52 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx52_inb : ∀ (v105 : IVec S16 32) (v107 : IVec S16 32) (v111 : IVec S16 32) (v127 : IVec S16 32) (k0_hw52 : k0_chk52 v105 v107 v111 v127), ∀ a x, ((![v127, v107, v105, v111] : Fin 4 → IVec S16 32) a x).toNat < S15x4x8x128.size a := fun v105 v107 v111 v127 k0_hw52 => k0_hw52
def k0_off40 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_182 : BitVec 32 := 8#32
  let v128 : BitVec 32 := Scalar.muli arg12 c8_i32_182
  let c2_i32 : BitVec 32 := 2#32
  let v129 : BitVec 32 := Scalar.addi v128 c2_i32
  let c16_i32_183 : BitVec 32 := 16#32
  let v130 : BitVec 32 := Scalar.muli v129 c16_i32_183
  let v131 : Index := Scalar.indexCast v130
  ![v131.toNat]

def k0_chk53 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx53_inb : ∀ (v136 : IVec S16 32) (v138 : IVec S16 32) (v142 : IVec S16 32) (v150 : IVec S16 32) (k0_hw53 : k0_chk53 v136 v138 v142 v150), ∀ a x, ((![v150, v138, v136, v142] : Fin 4 → IVec S16 32) a x).toNat < S15x4x8x128.size a := fun v136 v138 v142 v150 k0_hw53 => k0_hw53

def k0_chk54 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx54_inb : ∀ (v136 : IVec S16 32) (v138 : IVec S16 32) (v142 : IVec S16 32) (v158 : IVec S16 32) (k0_hw54 : k0_chk54 v136 v138 v142 v158), ∀ a x, ((![v158, v138, v136, v142] : Fin 4 → IVec S16 32) a x).toNat < S15x4x8x128.size a := fun v136 v138 v142 v158 k0_hw54 => k0_hw54
def k0_off41 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_195 : BitVec 32 := 8#32
  let v159 : BitVec 32 := Scalar.muli arg12 c8_i32_195
  let c3_i32_196 : BitVec 32 := 3#32
  let v160 : BitVec 32 := Scalar.addi v159 c3_i32_196
  let c16_i32_197 : BitVec 32 := 16#32
  let v161 : BitVec 32 := Scalar.muli v160 c16_i32_197
  let v162 : Index := Scalar.indexCast v161
  ![v162.toNat]

def k0_chk55 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx55_inb : ∀ (v167 : IVec S16 32) (v169 : IVec S16 32) (v173 : IVec S16 32) (v181 : IVec S16 32) (k0_hw55 : k0_chk55 v167 v169 v173 v181), ∀ a x, ((![v181, v169, v167, v173] : Fin 4 → IVec S16 32) a x).toNat < S15x4x8x128.size a := fun v167 v169 v173 v181 k0_hw55 => k0_hw55

def k0_chk56 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx56_inb : ∀ (v167 : IVec S16 32) (v169 : IVec S16 32) (v173 : IVec S16 32) (v189 : IVec S16 32) (k0_hw56 : k0_chk56 v167 v169 v173 v189), ∀ a x, ((![v189, v169, v167, v173] : Fin 4 → IVec S16 32) a x).toNat < S15x4x8x128.size a := fun v167 v169 v173 v189 k0_hw56 => k0_hw56
def k0_off42 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_209 : BitVec 32 := 8#32
  let v190 : BitVec 32 := Scalar.muli arg12 c8_i32_209
  let c4_i32_210 : BitVec 32 := 4#32
  let v191 : BitVec 32 := Scalar.addi v190 c4_i32_210
  let c16_i32_211 : BitVec 32 := 16#32
  let v192 : BitVec 32 := Scalar.muli v191 c16_i32_211
  let v193 : Index := Scalar.indexCast v192
  ![v193.toNat]

def k0_chk57 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx57_inb : ∀ (v198 : IVec S16 32) (v200 : IVec S16 32) (v204 : IVec S16 32) (v212 : IVec S16 32) (k0_hw57 : k0_chk57 v198 v200 v204 v212), ∀ a x, ((![v212, v200, v198, v204] : Fin 4 → IVec S16 32) a x).toNat < S15x4x8x128.size a := fun v198 v200 v204 v212 k0_hw57 => k0_hw57

def k0_chk58 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx58_inb : ∀ (v198 : IVec S16 32) (v200 : IVec S16 32) (v204 : IVec S16 32) (v220 : IVec S16 32) (k0_hw58 : k0_chk58 v198 v200 v204 v220), ∀ a x, ((![v220, v200, v198, v204] : Fin 4 → IVec S16 32) a x).toNat < S15x4x8x128.size a := fun v198 v200 v204 v220 k0_hw58 => k0_hw58
def k0_off43 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_223 : BitVec 32 := 8#32
  let v221 : BitVec 32 := Scalar.muli arg12 c8_i32_223
  let c5_i32 : BitVec 32 := 5#32
  let v222 : BitVec 32 := Scalar.addi v221 c5_i32
  let c16_i32_224 : BitVec 32 := 16#32
  let v223 : BitVec 32 := Scalar.muli v222 c16_i32_224
  let v224 : Index := Scalar.indexCast v223
  ![v224.toNat]

def k0_chk59 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx59_inb : ∀ (v229 : IVec S16 32) (v231 : IVec S16 32) (v235 : IVec S16 32) (v243 : IVec S16 32) (k0_hw59 : k0_chk59 v229 v231 v235 v243), ∀ a x, ((![v243, v231, v229, v235] : Fin 4 → IVec S16 32) a x).toNat < S15x4x8x128.size a := fun v229 v231 v235 v243 k0_hw59 => k0_hw59

def k0_chk60 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx60_inb : ∀ (v229 : IVec S16 32) (v231 : IVec S16 32) (v235 : IVec S16 32) (v251 : IVec S16 32) (k0_hw60 : k0_chk60 v229 v231 v235 v251), ∀ a x, ((![v251, v231, v229, v235] : Fin 4 → IVec S16 32) a x).toNat < S15x4x8x128.size a := fun v229 v231 v235 v251 k0_hw60 => k0_hw60
def k0_off44 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_236 : BitVec 32 := 8#32
  let v252 : BitVec 32 := Scalar.muli arg12 c8_i32_236
  let c6_i32 : BitVec 32 := 6#32
  let v253 : BitVec 32 := Scalar.addi v252 c6_i32
  let c16_i32_237 : BitVec 32 := 16#32
  let v254 : BitVec 32 := Scalar.muli v253 c16_i32_237
  let v255 : Index := Scalar.indexCast v254
  ![v255.toNat]

def k0_chk61 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx61_inb : ∀ (v260 : IVec S16 32) (v262 : IVec S16 32) (v266 : IVec S16 32) (v274 : IVec S16 32) (k0_hw61 : k0_chk61 v260 v262 v266 v274), ∀ a x, ((![v274, v262, v260, v266] : Fin 4 → IVec S16 32) a x).toNat < S15x4x8x128.size a := fun v260 v262 v266 v274 k0_hw61 => k0_hw61

def k0_chk62 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx62_inb : ∀ (v260 : IVec S16 32) (v262 : IVec S16 32) (v266 : IVec S16 32) (v282 : IVec S16 32) (k0_hw62 : k0_chk62 v260 v262 v266 v282), ∀ a x, ((![v282, v262, v260, v266] : Fin 4 → IVec S16 32) a x).toNat < S15x4x8x128.size a := fun v260 v262 v266 v282 k0_hw62 => k0_hw62
def k0_off45 (k0_t5 : Fin k0_t5_loop.trips) : Fin 1 → Nat :=
  let c0_i32_60 : BitVec 32 := 0#32
  let c1_i32_62 : BitVec 32 := 1#32
  let arg12 : BitVec 32 := Scf.iv c0_i32_60 c1_i32_62 k0_t5
  let c8_i32_249 : BitVec 32 := 8#32
  let v283 : BitVec 32 := Scalar.muli arg12 c8_i32_249
  let c7_i32_250 : BitVec 32 := 7#32
  let v284 : BitVec 32 := Scalar.addi v283 c7_i32_250
  let c16_i32_251 : BitVec 32 := 16#32
  let v285 : BitVec 32 := Scalar.muli v284 c16_i32_251
  let v286 : Index := Scalar.indexCast v285
  ![v286.toNat]

def k0_chk63 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx63_inb : ∀ (v291 : IVec S16 32) (v293 : IVec S16 32) (v297 : IVec S16 32) (v305 : IVec S16 32) (k0_hw63 : k0_chk63 v291 v293 v297 v305), ∀ a x, ((![v305, v293, v291, v297] : Fin 4 → IVec S16 32) a x).toNat < S15x4x8x128.size a := fun v291 v293 v297 v305 k0_hw63 => k0_hw63

def k0_chk64 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx64_inb : ∀ (v291 : IVec S16 32) (v293 : IVec S16 32) (v297 : IVec S16 32) (v313 : IVec S16 32) (k0_hw64 : k0_chk64 v291 v293 v297 v313), ∀ a x, ((![v313, v293, v291, v297] : Fin 4 → IVec S16 32) a x).toNat < S15x4x8x128.size a := fun v291 v293 v297 v313 k0_hw64 => k0_hw64
def k0_off46 (i : grid0.Coords) : Fin 4 → Nat :=
  let c60_i32 : BitVec 32 := 60#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_64 : BitVec 32 := 0#32
  let c0_i32_65 : BitVec 32 := 0#32
  ![60, v3.toNat, 0, 0]
@[reducible] def k0_t6_loop : Scf.Loop 32 :=
  let c0_i32_76 : BitVec 32 := 0#32
  let c4_i32_77 : BitVec 32 := 4#32
  let v36 : BitVec 32 := Scalar.addi c0_i32_76 c4_i32_77
  let c1_i32_78 : BitVec 32 := 1#32
  ⟨c0_i32_76, v36, c1_i32_78⟩
def k0_off47 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk65 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx65_inb : ∀ (v74 : IVec S16 32) (v76 : IVec S16 32) (v80 : IVec S16 32) (v88 : IVec S16 32) (k0_hw65 : k0_chk65 v74 v76 v80 v88), ∀ a x, ((![v88, v76, v74, v80] : Fin 4 → IVec S16 32) a x).toNat < S15x4x8x128.size a := fun v74 v76 v80 v88 k0_hw65 => k0_hw65

def k0_chk66 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx66_inb : ∀ (v74 : IVec S16 32) (v76 : IVec S16 32) (v80 : IVec S16 32) (v96 : IVec S16 32) (k0_hw66 : k0_chk66 v74 v76 v80 v96), ∀ a x, ((![v96, v76, v74, v80] : Fin 4 → IVec S16 32) a x).toNat < S15x4x8x128.size a := fun v74 v76 v80 v96 k0_hw66 => k0_hw66
def k0_off48 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_168 : BitVec 32 := 8#32
  let v97 : BitVec 32 := Scalar.muli arg12 c8_i32_168
  let c1_i32_169 : BitVec 32 := 1#32
  let v98 : BitVec 32 := Scalar.addi v97 c1_i32_169
  let c16_i32_170 : BitVec 32 := 16#32
  let v99 : BitVec 32 := Scalar.muli v98 c16_i32_170
  let v100 : Index := Scalar.indexCast v99
  ![v100.toNat]

def k0_chk67 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx67_inb : ∀ (v105 : IVec S16 32) (v107 : IVec S16 32) (v111 : IVec S16 32) (v119 : IVec S16 32) (k0_hw67 : k0_chk67 v105 v107 v111 v119), ∀ a x, ((![v119, v107, v105, v111] : Fin 4 → IVec S16 32) a x).toNat < S15x4x8x128.size a := fun v105 v107 v111 v119 k0_hw67 => k0_hw67

def k0_chk68 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx68_inb : ∀ (v105 : IVec S16 32) (v107 : IVec S16 32) (v111 : IVec S16 32) (v127 : IVec S16 32) (k0_hw68 : k0_chk68 v105 v107 v111 v127), ∀ a x, ((![v127, v107, v105, v111] : Fin 4 → IVec S16 32) a x).toNat < S15x4x8x128.size a := fun v105 v107 v111 v127 k0_hw68 => k0_hw68
def k0_off49 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_182 : BitVec 32 := 8#32
  let v128 : BitVec 32 := Scalar.muli arg12 c8_i32_182
  let c2_i32 : BitVec 32 := 2#32
  let v129 : BitVec 32 := Scalar.addi v128 c2_i32
  let c16_i32_183 : BitVec 32 := 16#32
  let v130 : BitVec 32 := Scalar.muli v129 c16_i32_183
  let v131 : Index := Scalar.indexCast v130
  ![v131.toNat]

def k0_chk69 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx69_inb : ∀ (v136 : IVec S16 32) (v138 : IVec S16 32) (v142 : IVec S16 32) (v150 : IVec S16 32) (k0_hw69 : k0_chk69 v136 v138 v142 v150), ∀ a x, ((![v150, v138, v136, v142] : Fin 4 → IVec S16 32) a x).toNat < S15x4x8x128.size a := fun v136 v138 v142 v150 k0_hw69 => k0_hw69

def k0_chk70 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx70_inb : ∀ (v136 : IVec S16 32) (v138 : IVec S16 32) (v142 : IVec S16 32) (v158 : IVec S16 32) (k0_hw70 : k0_chk70 v136 v138 v142 v158), ∀ a x, ((![v158, v138, v136, v142] : Fin 4 → IVec S16 32) a x).toNat < S15x4x8x128.size a := fun v136 v138 v142 v158 k0_hw70 => k0_hw70
def k0_off50 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_195 : BitVec 32 := 8#32
  let v159 : BitVec 32 := Scalar.muli arg12 c8_i32_195
  let c3_i32_196 : BitVec 32 := 3#32
  let v160 : BitVec 32 := Scalar.addi v159 c3_i32_196
  let c16_i32_197 : BitVec 32 := 16#32
  let v161 : BitVec 32 := Scalar.muli v160 c16_i32_197
  let v162 : Index := Scalar.indexCast v161
  ![v162.toNat]

def k0_chk71 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx71_inb : ∀ (v167 : IVec S16 32) (v169 : IVec S16 32) (v173 : IVec S16 32) (v181 : IVec S16 32) (k0_hw71 : k0_chk71 v167 v169 v173 v181), ∀ a x, ((![v181, v169, v167, v173] : Fin 4 → IVec S16 32) a x).toNat < S15x4x8x128.size a := fun v167 v169 v173 v181 k0_hw71 => k0_hw71

def k0_chk72 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx72_inb : ∀ (v167 : IVec S16 32) (v169 : IVec S16 32) (v173 : IVec S16 32) (v189 : IVec S16 32) (k0_hw72 : k0_chk72 v167 v169 v173 v189), ∀ a x, ((![v189, v169, v167, v173] : Fin 4 → IVec S16 32) a x).toNat < S15x4x8x128.size a := fun v167 v169 v173 v189 k0_hw72 => k0_hw72
def k0_off51 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_209 : BitVec 32 := 8#32
  let v190 : BitVec 32 := Scalar.muli arg12 c8_i32_209
  let c4_i32_210 : BitVec 32 := 4#32
  let v191 : BitVec 32 := Scalar.addi v190 c4_i32_210
  let c16_i32_211 : BitVec 32 := 16#32
  let v192 : BitVec 32 := Scalar.muli v191 c16_i32_211
  let v193 : Index := Scalar.indexCast v192
  ![v193.toNat]

def k0_chk73 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx73_inb : ∀ (v198 : IVec S16 32) (v200 : IVec S16 32) (v204 : IVec S16 32) (v212 : IVec S16 32) (k0_hw73 : k0_chk73 v198 v200 v204 v212), ∀ a x, ((![v212, v200, v198, v204] : Fin 4 → IVec S16 32) a x).toNat < S15x4x8x128.size a := fun v198 v200 v204 v212 k0_hw73 => k0_hw73

def k0_chk74 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx74_inb : ∀ (v198 : IVec S16 32) (v200 : IVec S16 32) (v204 : IVec S16 32) (v220 : IVec S16 32) (k0_hw74 : k0_chk74 v198 v200 v204 v220), ∀ a x, ((![v220, v200, v198, v204] : Fin 4 → IVec S16 32) a x).toNat < S15x4x8x128.size a := fun v198 v200 v204 v220 k0_hw74 => k0_hw74
def k0_off52 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_223 : BitVec 32 := 8#32
  let v221 : BitVec 32 := Scalar.muli arg12 c8_i32_223
  let c5_i32 : BitVec 32 := 5#32
  let v222 : BitVec 32 := Scalar.addi v221 c5_i32
  let c16_i32_224 : BitVec 32 := 16#32
  let v223 : BitVec 32 := Scalar.muli v222 c16_i32_224
  let v224 : Index := Scalar.indexCast v223
  ![v224.toNat]

def k0_chk75 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx75_inb : ∀ (v229 : IVec S16 32) (v231 : IVec S16 32) (v235 : IVec S16 32) (v243 : IVec S16 32) (k0_hw75 : k0_chk75 v229 v231 v235 v243), ∀ a x, ((![v243, v231, v229, v235] : Fin 4 → IVec S16 32) a x).toNat < S15x4x8x128.size a := fun v229 v231 v235 v243 k0_hw75 => k0_hw75

def k0_chk76 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx76_inb : ∀ (v229 : IVec S16 32) (v231 : IVec S16 32) (v235 : IVec S16 32) (v251 : IVec S16 32) (k0_hw76 : k0_chk76 v229 v231 v235 v251), ∀ a x, ((![v251, v231, v229, v235] : Fin 4 → IVec S16 32) a x).toNat < S15x4x8x128.size a := fun v229 v231 v235 v251 k0_hw76 => k0_hw76
def k0_off53 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_236 : BitVec 32 := 8#32
  let v252 : BitVec 32 := Scalar.muli arg12 c8_i32_236
  let c6_i32 : BitVec 32 := 6#32
  let v253 : BitVec 32 := Scalar.addi v252 c6_i32
  let c16_i32_237 : BitVec 32 := 16#32
  let v254 : BitVec 32 := Scalar.muli v253 c16_i32_237
  let v255 : Index := Scalar.indexCast v254
  ![v255.toNat]

def k0_chk77 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx77_inb : ∀ (v260 : IVec S16 32) (v262 : IVec S16 32) (v266 : IVec S16 32) (v274 : IVec S16 32) (k0_hw77 : k0_chk77 v260 v262 v266 v274), ∀ a x, ((![v274, v262, v260, v266] : Fin 4 → IVec S16 32) a x).toNat < S15x4x8x128.size a := fun v260 v262 v266 v274 k0_hw77 => k0_hw77

def k0_chk78 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx78_inb : ∀ (v260 : IVec S16 32) (v262 : IVec S16 32) (v266 : IVec S16 32) (v282 : IVec S16 32) (k0_hw78 : k0_chk78 v260 v262 v266 v282), ∀ a x, ((![v282, v262, v260, v266] : Fin 4 → IVec S16 32) a x).toNat < S15x4x8x128.size a := fun v260 v262 v266 v282 k0_hw78 => k0_hw78
def k0_off54 (k0_t6 : Fin k0_t6_loop.trips) : Fin 1 → Nat :=
  let c0_i32_76 : BitVec 32 := 0#32
  let c1_i32_78 : BitVec 32 := 1#32
  let arg12 : BitVec 32 := Scf.iv c0_i32_76 c1_i32_78 k0_t6
  let c8_i32_249 : BitVec 32 := 8#32
  let v283 : BitVec 32 := Scalar.muli arg12 c8_i32_249
  let c7_i32_250 : BitVec 32 := 7#32
  let v284 : BitVec 32 := Scalar.addi v283 c7_i32_250
  let c16_i32_251 : BitVec 32 := 16#32
  let v285 : BitVec 32 := Scalar.muli v284 c16_i32_251
  let v286 : Index := Scalar.indexCast v285
  ![v286.toNat]

def k0_chk79 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx79_inb : ∀ (v291 : IVec S16 32) (v293 : IVec S16 32) (v297 : IVec S16 32) (v305 : IVec S16 32) (k0_hw79 : k0_chk79 v291 v293 v297 v305), ∀ a x, ((![v305, v293, v291, v297] : Fin 4 → IVec S16 32) a x).toNat < S15x4x8x128.size a := fun v291 v293 v297 v305 k0_hw79 => k0_hw79

def k0_chk80 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx80_inb : ∀ (v291 : IVec S16 32) (v293 : IVec S16 32) (v297 : IVec S16 32) (v313 : IVec S16 32) (k0_hw80 : k0_chk80 v291 v293 v297 v313), ∀ a x, ((![v313, v293, v291, v297] : Fin 4 → IVec S16 32) a x).toNat < S15x4x8x128.size a := fun v291 v293 v297 v313 k0_hw80 => k0_hw80
def k0_off55 (i : grid0.Coords) : Fin 4 → Nat :=
  let c75_i32 : BitVec 32 := 75#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_80 : BitVec 32 := 0#32
  let c0_i32_81 : BitVec 32 := 0#32
  ![75, v3.toNat, 0, 0]
@[reducible] def k0_t7_loop : Scf.Loop 32 :=
  let c0_i32_92 : BitVec 32 := 0#32
  let c4_i32_93 : BitVec 32 := 4#32
  let v42 : BitVec 32 := Scalar.addi c0_i32_92 c4_i32_93
  let c1_i32_94 : BitVec 32 := 1#32
  ⟨c0_i32_92, v42, c1_i32_94⟩
def k0_off56 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk81 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx81_inb : ∀ (v74 : IVec S16 32) (v76 : IVec S16 32) (v80 : IVec S16 32) (v88 : IVec S16 32) (k0_hw81 : k0_chk81 v74 v76 v80 v88), ∀ a x, ((![v88, v76, v74, v80] : Fin 4 → IVec S16 32) a x).toNat < S15x4x8x128.size a := fun v74 v76 v80 v88 k0_hw81 => k0_hw81

def k0_chk82 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx82_inb : ∀ (v74 : IVec S16 32) (v76 : IVec S16 32) (v80 : IVec S16 32) (v96 : IVec S16 32) (k0_hw82 : k0_chk82 v74 v76 v80 v96), ∀ a x, ((![v96, v76, v74, v80] : Fin 4 → IVec S16 32) a x).toNat < S15x4x8x128.size a := fun v74 v76 v80 v96 k0_hw82 => k0_hw82
def k0_off57 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_168 : BitVec 32 := 8#32
  let v97 : BitVec 32 := Scalar.muli arg12 c8_i32_168
  let c1_i32_169 : BitVec 32 := 1#32
  let v98 : BitVec 32 := Scalar.addi v97 c1_i32_169
  let c16_i32_170 : BitVec 32 := 16#32
  let v99 : BitVec 32 := Scalar.muli v98 c16_i32_170
  let v100 : Index := Scalar.indexCast v99
  ![v100.toNat]

def k0_chk83 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx83_inb : ∀ (v105 : IVec S16 32) (v107 : IVec S16 32) (v111 : IVec S16 32) (v119 : IVec S16 32) (k0_hw83 : k0_chk83 v105 v107 v111 v119), ∀ a x, ((![v119, v107, v105, v111] : Fin 4 → IVec S16 32) a x).toNat < S15x4x8x128.size a := fun v105 v107 v111 v119 k0_hw83 => k0_hw83

def k0_chk84 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx84_inb : ∀ (v105 : IVec S16 32) (v107 : IVec S16 32) (v111 : IVec S16 32) (v127 : IVec S16 32) (k0_hw84 : k0_chk84 v105 v107 v111 v127), ∀ a x, ((![v127, v107, v105, v111] : Fin 4 → IVec S16 32) a x).toNat < S15x4x8x128.size a := fun v105 v107 v111 v127 k0_hw84 => k0_hw84
def k0_off58 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_182 : BitVec 32 := 8#32
  let v128 : BitVec 32 := Scalar.muli arg12 c8_i32_182
  let c2_i32 : BitVec 32 := 2#32
  let v129 : BitVec 32 := Scalar.addi v128 c2_i32
  let c16_i32_183 : BitVec 32 := 16#32
  let v130 : BitVec 32 := Scalar.muli v129 c16_i32_183
  let v131 : Index := Scalar.indexCast v130
  ![v131.toNat]

def k0_chk85 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx85_inb : ∀ (v136 : IVec S16 32) (v138 : IVec S16 32) (v142 : IVec S16 32) (v150 : IVec S16 32) (k0_hw85 : k0_chk85 v136 v138 v142 v150), ∀ a x, ((![v150, v138, v136, v142] : Fin 4 → IVec S16 32) a x).toNat < S15x4x8x128.size a := fun v136 v138 v142 v150 k0_hw85 => k0_hw85

def k0_chk86 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx86_inb : ∀ (v136 : IVec S16 32) (v138 : IVec S16 32) (v142 : IVec S16 32) (v158 : IVec S16 32) (k0_hw86 : k0_chk86 v136 v138 v142 v158), ∀ a x, ((![v158, v138, v136, v142] : Fin 4 → IVec S16 32) a x).toNat < S15x4x8x128.size a := fun v136 v138 v142 v158 k0_hw86 => k0_hw86
def k0_off59 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_195 : BitVec 32 := 8#32
  let v159 : BitVec 32 := Scalar.muli arg12 c8_i32_195
  let c3_i32_196 : BitVec 32 := 3#32
  let v160 : BitVec 32 := Scalar.addi v159 c3_i32_196
  let c16_i32_197 : BitVec 32 := 16#32
  let v161 : BitVec 32 := Scalar.muli v160 c16_i32_197
  let v162 : Index := Scalar.indexCast v161
  ![v162.toNat]

def k0_chk87 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx87_inb : ∀ (v167 : IVec S16 32) (v169 : IVec S16 32) (v173 : IVec S16 32) (v181 : IVec S16 32) (k0_hw87 : k0_chk87 v167 v169 v173 v181), ∀ a x, ((![v181, v169, v167, v173] : Fin 4 → IVec S16 32) a x).toNat < S15x4x8x128.size a := fun v167 v169 v173 v181 k0_hw87 => k0_hw87

def k0_chk88 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx88_inb : ∀ (v167 : IVec S16 32) (v169 : IVec S16 32) (v173 : IVec S16 32) (v189 : IVec S16 32) (k0_hw88 : k0_chk88 v167 v169 v173 v189), ∀ a x, ((![v189, v169, v167, v173] : Fin 4 → IVec S16 32) a x).toNat < S15x4x8x128.size a := fun v167 v169 v173 v189 k0_hw88 => k0_hw88
def k0_off60 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_209 : BitVec 32 := 8#32
  let v190 : BitVec 32 := Scalar.muli arg12 c8_i32_209
  let c4_i32_210 : BitVec 32 := 4#32
  let v191 : BitVec 32 := Scalar.addi v190 c4_i32_210
  let c16_i32_211 : BitVec 32 := 16#32
  let v192 : BitVec 32 := Scalar.muli v191 c16_i32_211
  let v193 : Index := Scalar.indexCast v192
  ![v193.toNat]

def k0_chk89 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx89_inb : ∀ (v198 : IVec S16 32) (v200 : IVec S16 32) (v204 : IVec S16 32) (v212 : IVec S16 32) (k0_hw89 : k0_chk89 v198 v200 v204 v212), ∀ a x, ((![v212, v200, v198, v204] : Fin 4 → IVec S16 32) a x).toNat < S15x4x8x128.size a := fun v198 v200 v204 v212 k0_hw89 => k0_hw89

def k0_chk90 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx90_inb : ∀ (v198 : IVec S16 32) (v200 : IVec S16 32) (v204 : IVec S16 32) (v220 : IVec S16 32) (k0_hw90 : k0_chk90 v198 v200 v204 v220), ∀ a x, ((![v220, v200, v198, v204] : Fin 4 → IVec S16 32) a x).toNat < S15x4x8x128.size a := fun v198 v200 v204 v220 k0_hw90 => k0_hw90
def k0_off61 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_223 : BitVec 32 := 8#32
  let v221 : BitVec 32 := Scalar.muli arg12 c8_i32_223
  let c5_i32 : BitVec 32 := 5#32
  let v222 : BitVec 32 := Scalar.addi v221 c5_i32
  let c16_i32_224 : BitVec 32 := 16#32
  let v223 : BitVec 32 := Scalar.muli v222 c16_i32_224
  let v224 : Index := Scalar.indexCast v223
  ![v224.toNat]

def k0_chk91 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx91_inb : ∀ (v229 : IVec S16 32) (v231 : IVec S16 32) (v235 : IVec S16 32) (v243 : IVec S16 32) (k0_hw91 : k0_chk91 v229 v231 v235 v243), ∀ a x, ((![v243, v231, v229, v235] : Fin 4 → IVec S16 32) a x).toNat < S15x4x8x128.size a := fun v229 v231 v235 v243 k0_hw91 => k0_hw91

def k0_chk92 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx92_inb : ∀ (v229 : IVec S16 32) (v231 : IVec S16 32) (v235 : IVec S16 32) (v251 : IVec S16 32) (k0_hw92 : k0_chk92 v229 v231 v235 v251), ∀ a x, ((![v251, v231, v229, v235] : Fin 4 → IVec S16 32) a x).toNat < S15x4x8x128.size a := fun v229 v231 v235 v251 k0_hw92 => k0_hw92
def k0_off62 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_236 : BitVec 32 := 8#32
  let v252 : BitVec 32 := Scalar.muli arg12 c8_i32_236
  let c6_i32 : BitVec 32 := 6#32
  let v253 : BitVec 32 := Scalar.addi v252 c6_i32
  let c16_i32_237 : BitVec 32 := 16#32
  let v254 : BitVec 32 := Scalar.muli v253 c16_i32_237
  let v255 : Index := Scalar.indexCast v254
  ![v255.toNat]

def k0_chk93 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx93_inb : ∀ (v260 : IVec S16 32) (v262 : IVec S16 32) (v266 : IVec S16 32) (v274 : IVec S16 32) (k0_hw93 : k0_chk93 v260 v262 v266 v274), ∀ a x, ((![v274, v262, v260, v266] : Fin 4 → IVec S16 32) a x).toNat < S15x4x8x128.size a := fun v260 v262 v266 v274 k0_hw93 => k0_hw93

def k0_chk94 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx94_inb : ∀ (v260 : IVec S16 32) (v262 : IVec S16 32) (v266 : IVec S16 32) (v282 : IVec S16 32) (k0_hw94 : k0_chk94 v260 v262 v266 v282), ∀ a x, ((![v282, v262, v260, v266] : Fin 4 → IVec S16 32) a x).toNat < S15x4x8x128.size a := fun v260 v262 v266 v282 k0_hw94 => k0_hw94
def k0_off63 (k0_t7 : Fin k0_t7_loop.trips) : Fin 1 → Nat :=
  let c0_i32_92 : BitVec 32 := 0#32
  let c1_i32_94 : BitVec 32 := 1#32
  let arg12 : BitVec 32 := Scf.iv c0_i32_92 c1_i32_94 k0_t7
  let c8_i32_249 : BitVec 32 := 8#32
  let v283 : BitVec 32 := Scalar.muli arg12 c8_i32_249
  let c7_i32_250 : BitVec 32 := 7#32
  let v284 : BitVec 32 := Scalar.addi v283 c7_i32_250
  let c16_i32_251 : BitVec 32 := 16#32
  let v285 : BitVec 32 := Scalar.muli v284 c16_i32_251
  let v286 : Index := Scalar.indexCast v285
  ![v286.toNat]

def k0_chk95 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx95_inb : ∀ (v291 : IVec S16 32) (v293 : IVec S16 32) (v297 : IVec S16 32) (v305 : IVec S16 32) (k0_hw95 : k0_chk95 v291 v293 v297 v305), ∀ a x, ((![v305, v293, v291, v297] : Fin 4 → IVec S16 32) a x).toNat < S15x4x8x128.size a := fun v291 v293 v297 v305 k0_hw95 => k0_hw95

def k0_chk96 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx96_inb : ∀ (v291 : IVec S16 32) (v293 : IVec S16 32) (v297 : IVec S16 32) (v313 : IVec S16 32) (k0_hw96 : k0_chk96 v291 v293 v297 v313), ∀ a x, ((![v313, v293, v291, v297] : Fin 4 → IVec S16 32) a x).toNat < S15x4x8x128.size a := fun v291 v293 v297 v313 k0_hw96 => k0_hw96
def k0_off64 (i : grid0.Coords) : Fin 4 → Nat :=
  let c90_i32 : BitVec 32 := 90#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_96 : BitVec 32 := 0#32
  let c0_i32_97 : BitVec 32 := 0#32
  ![90, v3.toNat, 0, 0]
@[reducible] def k0_t8_loop : Scf.Loop 32 :=
  let c0_i32_108 : BitVec 32 := 0#32
  let c4_i32_109 : BitVec 32 := 4#32
  let v48 : BitVec 32 := Scalar.addi c0_i32_108 c4_i32_109
  let c1_i32_110 : BitVec 32 := 1#32
  ⟨c0_i32_108, v48, c1_i32_110⟩
def k0_off65 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk97 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx97_inb : ∀ (v74 : IVec S16 32) (v76 : IVec S16 32) (v80 : IVec S16 32) (v88 : IVec S16 32) (k0_hw97 : k0_chk97 v74 v76 v80 v88), ∀ a x, ((![v88, v76, v74, v80] : Fin 4 → IVec S16 32) a x).toNat < S15x4x8x128.size a := fun v74 v76 v80 v88 k0_hw97 => k0_hw97

def k0_chk98 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx98_inb : ∀ (v74 : IVec S16 32) (v76 : IVec S16 32) (v80 : IVec S16 32) (v96 : IVec S16 32) (k0_hw98 : k0_chk98 v74 v76 v80 v96), ∀ a x, ((![v96, v76, v74, v80] : Fin 4 → IVec S16 32) a x).toNat < S15x4x8x128.size a := fun v74 v76 v80 v96 k0_hw98 => k0_hw98
def k0_off66 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_168 : BitVec 32 := 8#32
  let v97 : BitVec 32 := Scalar.muli arg12 c8_i32_168
  let c1_i32_169 : BitVec 32 := 1#32
  let v98 : BitVec 32 := Scalar.addi v97 c1_i32_169
  let c16_i32_170 : BitVec 32 := 16#32
  let v99 : BitVec 32 := Scalar.muli v98 c16_i32_170
  let v100 : Index := Scalar.indexCast v99
  ![v100.toNat]

def k0_chk99 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx99_inb : ∀ (v105 : IVec S16 32) (v107 : IVec S16 32) (v111 : IVec S16 32) (v119 : IVec S16 32) (k0_hw99 : k0_chk99 v105 v107 v111 v119), ∀ a x, ((![v119, v107, v105, v111] : Fin 4 → IVec S16 32) a x).toNat < S15x4x8x128.size a := fun v105 v107 v111 v119 k0_hw99 => k0_hw99

def k0_chk100 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx100_inb : ∀ (v105 : IVec S16 32) (v107 : IVec S16 32) (v111 : IVec S16 32) (v127 : IVec S16 32) (k0_hw100 : k0_chk100 v105 v107 v111 v127), ∀ a x, ((![v127, v107, v105, v111] : Fin 4 → IVec S16 32) a x).toNat < S15x4x8x128.size a := fun v105 v107 v111 v127 k0_hw100 => k0_hw100
def k0_off67 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_182 : BitVec 32 := 8#32
  let v128 : BitVec 32 := Scalar.muli arg12 c8_i32_182
  let c2_i32 : BitVec 32 := 2#32
  let v129 : BitVec 32 := Scalar.addi v128 c2_i32
  let c16_i32_183 : BitVec 32 := 16#32
  let v130 : BitVec 32 := Scalar.muli v129 c16_i32_183
  let v131 : Index := Scalar.indexCast v130
  ![v131.toNat]

def k0_chk101 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx101_inb : ∀ (v136 : IVec S16 32) (v138 : IVec S16 32) (v142 : IVec S16 32) (v150 : IVec S16 32) (k0_hw101 : k0_chk101 v136 v138 v142 v150), ∀ a x, ((![v150, v138, v136, v142] : Fin 4 → IVec S16 32) a x).toNat < S15x4x8x128.size a := fun v136 v138 v142 v150 k0_hw101 => k0_hw101

def k0_chk102 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx102_inb : ∀ (v136 : IVec S16 32) (v138 : IVec S16 32) (v142 : IVec S16 32) (v158 : IVec S16 32) (k0_hw102 : k0_chk102 v136 v138 v142 v158), ∀ a x, ((![v158, v138, v136, v142] : Fin 4 → IVec S16 32) a x).toNat < S15x4x8x128.size a := fun v136 v138 v142 v158 k0_hw102 => k0_hw102
def k0_off68 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_195 : BitVec 32 := 8#32
  let v159 : BitVec 32 := Scalar.muli arg12 c8_i32_195
  let c3_i32_196 : BitVec 32 := 3#32
  let v160 : BitVec 32 := Scalar.addi v159 c3_i32_196
  let c16_i32_197 : BitVec 32 := 16#32
  let v161 : BitVec 32 := Scalar.muli v160 c16_i32_197
  let v162 : Index := Scalar.indexCast v161
  ![v162.toNat]

def k0_chk103 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx103_inb : ∀ (v167 : IVec S16 32) (v169 : IVec S16 32) (v173 : IVec S16 32) (v181 : IVec S16 32) (k0_hw103 : k0_chk103 v167 v169 v173 v181), ∀ a x, ((![v181, v169, v167, v173] : Fin 4 → IVec S16 32) a x).toNat < S15x4x8x128.size a := fun v167 v169 v173 v181 k0_hw103 => k0_hw103

def k0_chk104 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx104_inb : ∀ (v167 : IVec S16 32) (v169 : IVec S16 32) (v173 : IVec S16 32) (v189 : IVec S16 32) (k0_hw104 : k0_chk104 v167 v169 v173 v189), ∀ a x, ((![v189, v169, v167, v173] : Fin 4 → IVec S16 32) a x).toNat < S15x4x8x128.size a := fun v167 v169 v173 v189 k0_hw104 => k0_hw104
def k0_off69 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_209 : BitVec 32 := 8#32
  let v190 : BitVec 32 := Scalar.muli arg12 c8_i32_209
  let c4_i32_210 : BitVec 32 := 4#32
  let v191 : BitVec 32 := Scalar.addi v190 c4_i32_210
  let c16_i32_211 : BitVec 32 := 16#32
  let v192 : BitVec 32 := Scalar.muli v191 c16_i32_211
  let v193 : Index := Scalar.indexCast v192
  ![v193.toNat]

def k0_chk105 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx105_inb : ∀ (v198 : IVec S16 32) (v200 : IVec S16 32) (v204 : IVec S16 32) (v212 : IVec S16 32) (k0_hw105 : k0_chk105 v198 v200 v204 v212), ∀ a x, ((![v212, v200, v198, v204] : Fin 4 → IVec S16 32) a x).toNat < S15x4x8x128.size a := fun v198 v200 v204 v212 k0_hw105 => k0_hw105

def k0_chk106 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx106_inb : ∀ (v198 : IVec S16 32) (v200 : IVec S16 32) (v204 : IVec S16 32) (v220 : IVec S16 32) (k0_hw106 : k0_chk106 v198 v200 v204 v220), ∀ a x, ((![v220, v200, v198, v204] : Fin 4 → IVec S16 32) a x).toNat < S15x4x8x128.size a := fun v198 v200 v204 v220 k0_hw106 => k0_hw106
def k0_off70 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_223 : BitVec 32 := 8#32
  let v221 : BitVec 32 := Scalar.muli arg12 c8_i32_223
  let c5_i32 : BitVec 32 := 5#32
  let v222 : BitVec 32 := Scalar.addi v221 c5_i32
  let c16_i32_224 : BitVec 32 := 16#32
  let v223 : BitVec 32 := Scalar.muli v222 c16_i32_224
  let v224 : Index := Scalar.indexCast v223
  ![v224.toNat]

def k0_chk107 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx107_inb : ∀ (v229 : IVec S16 32) (v231 : IVec S16 32) (v235 : IVec S16 32) (v243 : IVec S16 32) (k0_hw107 : k0_chk107 v229 v231 v235 v243), ∀ a x, ((![v243, v231, v229, v235] : Fin 4 → IVec S16 32) a x).toNat < S15x4x8x128.size a := fun v229 v231 v235 v243 k0_hw107 => k0_hw107

def k0_chk108 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx108_inb : ∀ (v229 : IVec S16 32) (v231 : IVec S16 32) (v235 : IVec S16 32) (v251 : IVec S16 32) (k0_hw108 : k0_chk108 v229 v231 v235 v251), ∀ a x, ((![v251, v231, v229, v235] : Fin 4 → IVec S16 32) a x).toNat < S15x4x8x128.size a := fun v229 v231 v235 v251 k0_hw108 => k0_hw108
def k0_off71 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_236 : BitVec 32 := 8#32
  let v252 : BitVec 32 := Scalar.muli arg12 c8_i32_236
  let c6_i32 : BitVec 32 := 6#32
  let v253 : BitVec 32 := Scalar.addi v252 c6_i32
  let c16_i32_237 : BitVec 32 := 16#32
  let v254 : BitVec 32 := Scalar.muli v253 c16_i32_237
  let v255 : Index := Scalar.indexCast v254
  ![v255.toNat]

def k0_chk109 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx109_inb : ∀ (v260 : IVec S16 32) (v262 : IVec S16 32) (v266 : IVec S16 32) (v274 : IVec S16 32) (k0_hw109 : k0_chk109 v260 v262 v266 v274), ∀ a x, ((![v274, v262, v260, v266] : Fin 4 → IVec S16 32) a x).toNat < S15x4x8x128.size a := fun v260 v262 v266 v274 k0_hw109 => k0_hw109

def k0_chk110 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx110_inb : ∀ (v260 : IVec S16 32) (v262 : IVec S16 32) (v266 : IVec S16 32) (v282 : IVec S16 32) (k0_hw110 : k0_chk110 v260 v262 v266 v282), ∀ a x, ((![v282, v262, v260, v266] : Fin 4 → IVec S16 32) a x).toNat < S15x4x8x128.size a := fun v260 v262 v266 v282 k0_hw110 => k0_hw110
def k0_off72 (k0_t8 : Fin k0_t8_loop.trips) : Fin 1 → Nat :=
  let c0_i32_108 : BitVec 32 := 0#32
  let c1_i32_110 : BitVec 32 := 1#32
  let arg12 : BitVec 32 := Scf.iv c0_i32_108 c1_i32_110 k0_t8
  let c8_i32_249 : BitVec 32 := 8#32
  let v283 : BitVec 32 := Scalar.muli arg12 c8_i32_249
  let c7_i32_250 : BitVec 32 := 7#32
  let v284 : BitVec 32 := Scalar.addi v283 c7_i32_250
  let c16_i32_251 : BitVec 32 := 16#32
  let v285 : BitVec 32 := Scalar.muli v284 c16_i32_251
  let v286 : Index := Scalar.indexCast v285
  ![v286.toNat]

def k0_chk111 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx111_inb : ∀ (v291 : IVec S16 32) (v293 : IVec S16 32) (v297 : IVec S16 32) (v305 : IVec S16 32) (k0_hw111 : k0_chk111 v291 v293 v297 v305), ∀ a x, ((![v305, v293, v291, v297] : Fin 4 → IVec S16 32) a x).toNat < S15x4x8x128.size a := fun v291 v293 v297 v305 k0_hw111 => k0_hw111

def k0_chk112 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx112_inb : ∀ (v291 : IVec S16 32) (v293 : IVec S16 32) (v297 : IVec S16 32) (v313 : IVec S16 32) (k0_hw112 : k0_chk112 v291 v293 v297 v313), ∀ a x, ((![v313, v293, v291, v297] : Fin 4 → IVec S16 32) a x).toNat < S15x4x8x128.size a := fun v291 v293 v297 v313 k0_hw112 => k0_hw112
def k0_off73 (i : grid0.Coords) : Fin 4 → Nat :=
  let c105_i32 : BitVec 32 := 105#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_112 : BitVec 32 := 0#32
  let c0_i32_113 : BitVec 32 := 0#32
  ![105, v3.toNat, 0, 0]
@[reducible] def k0_t9_loop : Scf.Loop 32 :=
  let c0_i32_124 : BitVec 32 := 0#32
  let c4_i32_125 : BitVec 32 := 4#32
  let v54 : BitVec 32 := Scalar.addi c0_i32_124 c4_i32_125
  let c1_i32_126 : BitVec 32 := 1#32
  ⟨c0_i32_124, v54, c1_i32_126⟩
def k0_off74 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32 : BitVec 32 := 8#32
  let v66 : BitVec 32 := Scalar.muli arg12 c8_i32
  let c0_i32_161 : BitVec 32 := 0#32
  let v67 : BitVec 32 := Scalar.addi v66 c0_i32_161
  let c16_i32_162 : BitVec 32 := 16#32
  let v68 : BitVec 32 := Scalar.muli v67 c16_i32_162
  let v69 : Index := Scalar.indexCast v68
  ![v69.toNat]

def k0_chk113 (v74 : IVec S16 32) (v76 : IVec S16 32) (v80 : IVec S16 32) (v88 : IVec S16 32) : Prop :=
  (∀ a x, ((![v88, v76, v74, v80] : Fin 4 → IVec S16 32) a x).toNat < S15x4x8x128.size a)
theorem k0_idx113_inb : ∀ (v74 : IVec S16 32) (v76 : IVec S16 32) (v80 : IVec S16 32) (v88 : IVec S16 32) (k0_hw113 : k0_chk113 v74 v76 v80 v88), ∀ a x, ((![v88, v76, v74, v80] : Fin 4 → IVec S16 32) a x).toNat < S15x4x8x128.size a := fun v74 v76 v80 v88 k0_hw113 => k0_hw113

def k0_chk114 (v74 : IVec S16 32) (v76 : IVec S16 32) (v80 : IVec S16 32) (v96 : IVec S16 32) : Prop :=
  (∀ a x, ((![v96, v76, v74, v80] : Fin 4 → IVec S16 32) a x).toNat < S15x4x8x128.size a)
theorem k0_idx114_inb : ∀ (v74 : IVec S16 32) (v76 : IVec S16 32) (v80 : IVec S16 32) (v96 : IVec S16 32) (k0_hw114 : k0_chk114 v74 v76 v80 v96), ∀ a x, ((![v96, v76, v74, v80] : Fin 4 → IVec S16 32) a x).toNat < S15x4x8x128.size a := fun v74 v76 v80 v96 k0_hw114 => k0_hw114
def k0_off75 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_168 : BitVec 32 := 8#32
  let v97 : BitVec 32 := Scalar.muli arg12 c8_i32_168
  let c1_i32_169 : BitVec 32 := 1#32
  let v98 : BitVec 32 := Scalar.addi v97 c1_i32_169
  let c16_i32_170 : BitVec 32 := 16#32
  let v99 : BitVec 32 := Scalar.muli v98 c16_i32_170
  let v100 : Index := Scalar.indexCast v99
  ![v100.toNat]

def k0_chk115 (v105 : IVec S16 32) (v107 : IVec S16 32) (v111 : IVec S16 32) (v119 : IVec S16 32) : Prop :=
  (∀ a x, ((![v119, v107, v105, v111] : Fin 4 → IVec S16 32) a x).toNat < S15x4x8x128.size a)
theorem k0_idx115_inb : ∀ (v105 : IVec S16 32) (v107 : IVec S16 32) (v111 : IVec S16 32) (v119 : IVec S16 32) (k0_hw115 : k0_chk115 v105 v107 v111 v119), ∀ a x, ((![v119, v107, v105, v111] : Fin 4 → IVec S16 32) a x).toNat < S15x4x8x128.size a := fun v105 v107 v111 v119 k0_hw115 => k0_hw115

def k0_chk116 (v105 : IVec S16 32) (v107 : IVec S16 32) (v111 : IVec S16 32) (v127 : IVec S16 32) : Prop :=
  (∀ a x, ((![v127, v107, v105, v111] : Fin 4 → IVec S16 32) a x).toNat < S15x4x8x128.size a)
theorem k0_idx116_inb : ∀ (v105 : IVec S16 32) (v107 : IVec S16 32) (v111 : IVec S16 32) (v127 : IVec S16 32) (k0_hw116 : k0_chk116 v105 v107 v111 v127), ∀ a x, ((![v127, v107, v105, v111] : Fin 4 → IVec S16 32) a x).toNat < S15x4x8x128.size a := fun v105 v107 v111 v127 k0_hw116 => k0_hw116
def k0_off76 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_182 : BitVec 32 := 8#32
  let v128 : BitVec 32 := Scalar.muli arg12 c8_i32_182
  let c2_i32 : BitVec 32 := 2#32
  let v129 : BitVec 32 := Scalar.addi v128 c2_i32
  let c16_i32_183 : BitVec 32 := 16#32
  let v130 : BitVec 32 := Scalar.muli v129 c16_i32_183
  let v131 : Index := Scalar.indexCast v130
  ![v131.toNat]

def k0_chk117 (v136 : IVec S16 32) (v138 : IVec S16 32) (v142 : IVec S16 32) (v150 : IVec S16 32) : Prop :=
  (∀ a x, ((![v150, v138, v136, v142] : Fin 4 → IVec S16 32) a x).toNat < S15x4x8x128.size a)
theorem k0_idx117_inb : ∀ (v136 : IVec S16 32) (v138 : IVec S16 32) (v142 : IVec S16 32) (v150 : IVec S16 32) (k0_hw117 : k0_chk117 v136 v138 v142 v150), ∀ a x, ((![v150, v138, v136, v142] : Fin 4 → IVec S16 32) a x).toNat < S15x4x8x128.size a := fun v136 v138 v142 v150 k0_hw117 => k0_hw117

def k0_chk118 (v136 : IVec S16 32) (v138 : IVec S16 32) (v142 : IVec S16 32) (v158 : IVec S16 32) : Prop :=
  (∀ a x, ((![v158, v138, v136, v142] : Fin 4 → IVec S16 32) a x).toNat < S15x4x8x128.size a)
theorem k0_idx118_inb : ∀ (v136 : IVec S16 32) (v138 : IVec S16 32) (v142 : IVec S16 32) (v158 : IVec S16 32) (k0_hw118 : k0_chk118 v136 v138 v142 v158), ∀ a x, ((![v158, v138, v136, v142] : Fin 4 → IVec S16 32) a x).toNat < S15x4x8x128.size a := fun v136 v138 v142 v158 k0_hw118 => k0_hw118
def k0_off77 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_195 : BitVec 32 := 8#32
  let v159 : BitVec 32 := Scalar.muli arg12 c8_i32_195
  let c3_i32_196 : BitVec 32 := 3#32
  let v160 : BitVec 32 := Scalar.addi v159 c3_i32_196
  let c16_i32_197 : BitVec 32 := 16#32
  let v161 : BitVec 32 := Scalar.muli v160 c16_i32_197
  let v162 : Index := Scalar.indexCast v161
  ![v162.toNat]

def k0_chk119 (v167 : IVec S16 32) (v169 : IVec S16 32) (v173 : IVec S16 32) (v181 : IVec S16 32) : Prop :=
  (∀ a x, ((![v181, v169, v167, v173] : Fin 4 → IVec S16 32) a x).toNat < S15x4x8x128.size a)
theorem k0_idx119_inb : ∀ (v167 : IVec S16 32) (v169 : IVec S16 32) (v173 : IVec S16 32) (v181 : IVec S16 32) (k0_hw119 : k0_chk119 v167 v169 v173 v181), ∀ a x, ((![v181, v169, v167, v173] : Fin 4 → IVec S16 32) a x).toNat < S15x4x8x128.size a := fun v167 v169 v173 v181 k0_hw119 => k0_hw119

def k0_chk120 (v167 : IVec S16 32) (v169 : IVec S16 32) (v173 : IVec S16 32) (v189 : IVec S16 32) : Prop :=
  (∀ a x, ((![v189, v169, v167, v173] : Fin 4 → IVec S16 32) a x).toNat < S15x4x8x128.size a)
theorem k0_idx120_inb : ∀ (v167 : IVec S16 32) (v169 : IVec S16 32) (v173 : IVec S16 32) (v189 : IVec S16 32) (k0_hw120 : k0_chk120 v167 v169 v173 v189), ∀ a x, ((![v189, v169, v167, v173] : Fin 4 → IVec S16 32) a x).toNat < S15x4x8x128.size a := fun v167 v169 v173 v189 k0_hw120 => k0_hw120
def k0_off78 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_209 : BitVec 32 := 8#32
  let v190 : BitVec 32 := Scalar.muli arg12 c8_i32_209
  let c4_i32_210 : BitVec 32 := 4#32
  let v191 : BitVec 32 := Scalar.addi v190 c4_i32_210
  let c16_i32_211 : BitVec 32 := 16#32
  let v192 : BitVec 32 := Scalar.muli v191 c16_i32_211
  let v193 : Index := Scalar.indexCast v192
  ![v193.toNat]

def k0_chk121 (v198 : IVec S16 32) (v200 : IVec S16 32) (v204 : IVec S16 32) (v212 : IVec S16 32) : Prop :=
  (∀ a x, ((![v212, v200, v198, v204] : Fin 4 → IVec S16 32) a x).toNat < S15x4x8x128.size a)
theorem k0_idx121_inb : ∀ (v198 : IVec S16 32) (v200 : IVec S16 32) (v204 : IVec S16 32) (v212 : IVec S16 32) (k0_hw121 : k0_chk121 v198 v200 v204 v212), ∀ a x, ((![v212, v200, v198, v204] : Fin 4 → IVec S16 32) a x).toNat < S15x4x8x128.size a := fun v198 v200 v204 v212 k0_hw121 => k0_hw121

def k0_chk122 (v198 : IVec S16 32) (v200 : IVec S16 32) (v204 : IVec S16 32) (v220 : IVec S16 32) : Prop :=
  (∀ a x, ((![v220, v200, v198, v204] : Fin 4 → IVec S16 32) a x).toNat < S15x4x8x128.size a)
theorem k0_idx122_inb : ∀ (v198 : IVec S16 32) (v200 : IVec S16 32) (v204 : IVec S16 32) (v220 : IVec S16 32) (k0_hw122 : k0_chk122 v198 v200 v204 v220), ∀ a x, ((![v220, v200, v198, v204] : Fin 4 → IVec S16 32) a x).toNat < S15x4x8x128.size a := fun v198 v200 v204 v220 k0_hw122 => k0_hw122
def k0_off79 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_223 : BitVec 32 := 8#32
  let v221 : BitVec 32 := Scalar.muli arg12 c8_i32_223
  let c5_i32 : BitVec 32 := 5#32
  let v222 : BitVec 32 := Scalar.addi v221 c5_i32
  let c16_i32_224 : BitVec 32 := 16#32
  let v223 : BitVec 32 := Scalar.muli v222 c16_i32_224
  let v224 : Index := Scalar.indexCast v223
  ![v224.toNat]

def k0_chk123 (v229 : IVec S16 32) (v231 : IVec S16 32) (v235 : IVec S16 32) (v243 : IVec S16 32) : Prop :=
  (∀ a x, ((![v243, v231, v229, v235] : Fin 4 → IVec S16 32) a x).toNat < S15x4x8x128.size a)
theorem k0_idx123_inb : ∀ (v229 : IVec S16 32) (v231 : IVec S16 32) (v235 : IVec S16 32) (v243 : IVec S16 32) (k0_hw123 : k0_chk123 v229 v231 v235 v243), ∀ a x, ((![v243, v231, v229, v235] : Fin 4 → IVec S16 32) a x).toNat < S15x4x8x128.size a := fun v229 v231 v235 v243 k0_hw123 => k0_hw123

def k0_chk124 (v229 : IVec S16 32) (v231 : IVec S16 32) (v235 : IVec S16 32) (v251 : IVec S16 32) : Prop :=
  (∀ a x, ((![v251, v231, v229, v235] : Fin 4 → IVec S16 32) a x).toNat < S15x4x8x128.size a)
theorem k0_idx124_inb : ∀ (v229 : IVec S16 32) (v231 : IVec S16 32) (v235 : IVec S16 32) (v251 : IVec S16 32) (k0_hw124 : k0_chk124 v229 v231 v235 v251), ∀ a x, ((![v251, v231, v229, v235] : Fin 4 → IVec S16 32) a x).toNat < S15x4x8x128.size a := fun v229 v231 v235 v251 k0_hw124 => k0_hw124
def k0_off80 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_236 : BitVec 32 := 8#32
  let v252 : BitVec 32 := Scalar.muli arg12 c8_i32_236
  let c6_i32 : BitVec 32 := 6#32
  let v253 : BitVec 32 := Scalar.addi v252 c6_i32
  let c16_i32_237 : BitVec 32 := 16#32
  let v254 : BitVec 32 := Scalar.muli v253 c16_i32_237
  let v255 : Index := Scalar.indexCast v254
  ![v255.toNat]

def k0_chk125 (v260 : IVec S16 32) (v262 : IVec S16 32) (v266 : IVec S16 32) (v274 : IVec S16 32) : Prop :=
  (∀ a x, ((![v274, v262, v260, v266] : Fin 4 → IVec S16 32) a x).toNat < S15x4x8x128.size a)
theorem k0_idx125_inb : ∀ (v260 : IVec S16 32) (v262 : IVec S16 32) (v266 : IVec S16 32) (v274 : IVec S16 32) (k0_hw125 : k0_chk125 v260 v262 v266 v274), ∀ a x, ((![v274, v262, v260, v266] : Fin 4 → IVec S16 32) a x).toNat < S15x4x8x128.size a := fun v260 v262 v266 v274 k0_hw125 => k0_hw125

def k0_chk126 (v260 : IVec S16 32) (v262 : IVec S16 32) (v266 : IVec S16 32) (v282 : IVec S16 32) : Prop :=
  (∀ a x, ((![v282, v262, v260, v266] : Fin 4 → IVec S16 32) a x).toNat < S15x4x8x128.size a)
theorem k0_idx126_inb : ∀ (v260 : IVec S16 32) (v262 : IVec S16 32) (v266 : IVec S16 32) (v282 : IVec S16 32) (k0_hw126 : k0_chk126 v260 v262 v266 v282), ∀ a x, ((![v282, v262, v260, v266] : Fin 4 → IVec S16 32) a x).toNat < S15x4x8x128.size a := fun v260 v262 v266 v282 k0_hw126 => k0_hw126
def k0_off81 (k0_t9 : Fin k0_t9_loop.trips) : Fin 1 → Nat :=
  let c0_i32_124 : BitVec 32 := 0#32
  let c1_i32_126 : BitVec 32 := 1#32
  let arg12 : BitVec 32 := Scf.iv c0_i32_124 c1_i32_126 k0_t9
  let c8_i32_249 : BitVec 32 := 8#32
  let v283 : BitVec 32 := Scalar.muli arg12 c8_i32_249
  let c7_i32_250 : BitVec 32 := 7#32
  let v284 : BitVec 32 := Scalar.addi v283 c7_i32_250
  let c16_i32_251 : BitVec 32 := 16#32
  let v285 : BitVec 32 := Scalar.muli v284 c16_i32_251
  let v286 : Index := Scalar.indexCast v285
  ![v286.toNat]

def k0_chk127 (v291 : IVec S16 32) (v293 : IVec S16 32) (v297 : IVec S16 32) (v305 : IVec S16 32) : Prop :=
  (∀ a x, ((![v305, v293, v291, v297] : Fin 4 → IVec S16 32) a x).toNat < S15x4x8x128.size a)
theorem k0_idx127_inb : ∀ (v291 : IVec S16 32) (v293 : IVec S16 32) (v297 : IVec S16 32) (v305 : IVec S16 32) (k0_hw127 : k0_chk127 v291 v293 v297 v305), ∀ a x, ((![v305, v293, v291, v297] : Fin 4 → IVec S16 32) a x).toNat < S15x4x8x128.size a := fun v291 v293 v297 v305 k0_hw127 => k0_hw127

def k0_chk128 (v291 : IVec S16 32) (v293 : IVec S16 32) (v297 : IVec S16 32) (v313 : IVec S16 32) : Prop :=
  (∀ a x, ((![v313, v293, v291, v297] : Fin 4 → IVec S16 32) a x).toNat < S15x4x8x128.size a)
theorem k0_idx128_inb : ∀ (v291 : IVec S16 32) (v293 : IVec S16 32) (v297 : IVec S16 32) (v313 : IVec S16 32) (k0_hw128 : k0_chk128 v291 v293 v297 v313), ∀ a x, ((![v313, v293, v291, v297] : Fin 4 → IVec S16 32) a x).toNat < S15x4x8x128.size a := fun v291 v293 v297 v313 k0_hw128 => k0_hw128
def k0_off82 (i : grid0.Coords) : Fin 4 → Nat :=
  let c120_i32 : BitVec 32 := 120#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 32 := Scalar.muli v1 c4_i32
  let c0_i32_132 : BitVec 32 := 0#32
  let c0_i32_133 : BitVec 32 := 0#32
  ![120, v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S16384x1 : Shape := ⟨2, ![16384, 1]⟩
abbrev S_ : Shape := ⟨0, ![]⟩
abbrev S16384 : Shape := ⟨1, ![16384]⟩
abbrev S16384x1x1 : Shape := ⟨3, ![16384, 1, 1]⟩
abbrev S16384x1x2 : Shape := ⟨3, ![16384, 1, 2]⟩

abbrev nBuf : Space → Nat
  | .hbm => 28
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1, .i32⟩
  | .hbm, ⟨2, _⟩ => ⟨S_, .i32⟩
  | .hbm, ⟨3, _⟩ => ⟨S_, .f32⟩
  | .hbm, ⟨4, _⟩ => ⟨S16384x1000, .f32⟩
  | .hbm, ⟨5, _⟩ => ⟨S16384x1000, .f32⟩
  | .hbm, ⟨6, _⟩ => ⟨S16384, .i32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S_, .i32⟩
  | .hbm, ⟨19, _⟩ => ⟨S16384x1, .i32⟩
  | .hbm, ⟨20, _⟩ => ⟨S16384x1, .i32⟩
  | .hbm, ⟨21, _⟩ => ⟨S16384x1, .i32⟩
  | .hbm, ⟨22, _⟩ => ⟨S16384x1x1, .i32⟩
  | .hbm, ⟨23, _⟩ => ⟨S16384x1x1, .i32⟩
  | .hbm, ⟨24, _⟩ => ⟨S16384x1x2, .i32⟩
  | .hbm, ⟨25, _⟩ => ⟨S_, .f32⟩
  | .hbm, ⟨26, _⟩ => ⟨S16384x1, .f32⟩
  | .hbm, ⟨27, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Body.lean ====
/-
  The tile kernel's body written once over its loops: nine chunks of the one-hot image, each filled by four trips of
  eight groups of sixteen rows. `Cert.KernelIdeal.cc0_body` is this program (`body_eq`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Hot

open Cert.KernelIdeal Cert.KernelIdeal.Gen
open Idealize.ShloMosaic
open Idealize.SL.Sem

variable {F : FTy → Type} [FloatOps F]

/-- The effects of one vector subcore's program. -/
abbrev E (F : FTy → Type) (i : grid0.Coords) := TpuEff nD τ sig (Elt F) Λ₀ (.scVector ((i 0).castLE hcore0) ((i 1).castLE hsub0))

/-- The four-trip loop every chunk runs. -/
abbrev lp : Scf.Loop 32 := ⟨0#32, 4#32, 1#32⟩
/-- The loop's bounds are in order and its step is positive. -/
theorem lp_ok : lp.OK := by decide

/-- The number of group `u` of trip `k`, as a word. -/
def gword (k : Fin lp.trips) (u : Fin 8) : BitVec 32 := Scalar.addi (Scalar.muli (Scf.iv 0#32 1#32 k) 8#32) (BitVec.ofNat 32 u.val)

/-- Where the sixteen index words of a group start. -/
def goff (k : Fin lp.trips) (u : Fin 8) : Fin 1 → Nat := ![(Scalar.indexCast (Scalar.muli (gword k u) 16#32)).toNat]

/-- Every group's sixteen words lie among the tile's 512. -/
theorem goff_inb : ∀ (k : Fin lp.trips) (u : Fin 8), ∀ a, goff k u a + S16.size a ≤ S512.size a := by decide

/-- The lane numbers, the stored ones and zeros, the index of a lane that is masked off. -/
abbrev lanes : IVec S16 32 := iota .scVector S16 32 [0] iota_S16_d0_w32_scVector
abbrev ones : FVec F S16 .f32 := broadcast S16 (Scalar.ofBits .f32 0x3F800000#32)
abbrev zeros : FVec F S16 .f32 := broadcast S16 (Scalar.ofBits .f32 0x00000000#32)
abbrev noIdx : IVec S16 32 := broadcast S16 0#32

/-- The lanes whose word lies in `[lo, hi)`. -/
abbrev inRange (w : IVec S16 32) (lo hi : BitVec 32) : IVec S16 1 := andi (cmpi .sge w (broadcast S16 lo)) (cmpi .slt w (broadcast S16 hi))

/-- The four coordinates a group's lanes store at. -/
abbrev coordsOf (w : IVec S16 32) (g lo hi st : BitVec 32) : Fin 4 → IVec S16 32 :=
  ![select (inRange w lo hi) (subi (shrui w (broadcast S16 3#32)) (broadcast S16 st)) noIdx,
    broadcast S16 (Scalar.shrui g 3#32), andi w (broadcast S16 7#32),
    addi (broadcast S16 (Scalar.shli (Scalar.andi g 7#32) 4#32)) lanes]

/-- One masked store of a group into a buffer. -/
def put {i : grid0.Coords} (b : Memref sig .scVector .vmem S15x4x8x128 .f32) (w : IVec S16 32) (g lo hi st : BitVec 32) (v : FVec F S16 .f32) :
    Prog (E F i) PUnit := do
  have h : k0_chk1 (coordsOf w g lo hi st 2) (coordsOf w g lo hi st 1) (coordsOf w g lo hi st 3) (coordsOf w g lo hi st 0) :=
    (← Prog.lift (TpuEff.assume _ (k0_chk1.dec (coordsOf w g lo hi st 2) (coordsOf w g lo hi st 1) (coordsOf w g lo hi st 3) (coordsOf w g lo hi st 0)))).down
  SparseCore.vectorStoreIdx b (coordsOf w g lo hi st) v (inRange w lo hi) false (k0_idx1_inb _ _ _ _ h) (View.stores_vmem_bits_univ h_S15x4x8x128 rfl)

/-- One group of a chunk that starts from zeros. -/
def group1 {i : grid0.Coords} (x : Memref sig .scVector .vmem S512 .i32) (b : Memref sig .scVector .vmem S15x4x8x128 .f32)
    (k : Fin lp.trips) (u : Fin 8) (lo hi st : BitVec 32) : Prog (E F i) PUnit := do
  let w : Vec F S16 .i32 ← Prog.lift (.load x (Rect.unit (s := S512) (goff k u) S16.size (goff_inb k u)).toLoadRect (View.loadsAt_vmem h_S16))
  put b w (gword k u) lo hi st ones

/-- One group of a chunk that first clears an older chunk's marks. -/
def group2 {i : grid0.Coords} (x : Memref sig .scVector .vmem S512 .i32) (b : Memref sig .scVector .vmem S15x4x8x128 .f32)
    (k : Fin lp.trips) (u : Fin 8) (zlo zhi zst lo hi st : BitVec 32) : Prog (E F i) PUnit := do
  let w : Vec F S16 .i32 ← Prog.lift (.load x (Rect.unit (s := S512) (goff k u) S16.size (goff_inb k u)).toLoadRect (View.loadsAt_vmem h_S16))
  put b w (gword k u) zlo zhi zst zeros
  put b w (gword k u) lo hi st ones

/-- The groups `us` in order, by a rule for one. -/
def groups {i : grid0.Coords} (p : Fin 8 → Prog (E F i) PUnit) : List (Fin 8) → Prog (E F i) (BitVec 32)
  | [] => pure 0#32
  | u :: us => p u >>= fun _ => groups p us

/-- A chunk's four trips. -/
abbrev chunk {i : grid0.Coords} (p : Fin lp.trips → Fin 8 → Prog (E F i) PUnit) : Prog (E F i) (BitVec 32) :=
  Scf.Loop.for lp lp_ok 0#32 fun k _ => groups (p k) [0, 1, 2, 3, 4, 5, 6, 7]

section
variable (i : grid0.Coords) (arg2 : Memref sig .scVector .hbm S16384 .i32) (harg2 : arg2.IsWhole) (arg3 : Memref sig .scVector .hbm S15x4x8x128 .f32) (harg3 : arg3.IsWhole) (arg4 : Memref sig .scVector .hbm S125x128x8x128 .f32) (harg4 : arg4.IsWhole) (arg5 : Memref sig .scVector .vmem S512 .i32) (harg5 : arg5.IsWhole) (arg6 : Memref sig .scVector .vmem S15x4x8x128 .f32) (harg6 : arg6.IsWhole) (arg7 : Memref sig .scVector .vmem S15x4x8x128 .f32) (harg7 : arg7.IsWhole) (arg8 : DmaSems sig S_) (arg9 : DmaSems sig S_) (arg10 : DmaSems sig S_) (arg11 : DmaSems sig S_) (v66_r0 : DmaSems sig S_)

/-- The `[15, 4, 8, 128]` piece of the output at an offset. -/
abbrev outAt (off : Fin 4 → Nat) (h : ∀ a, off a + S15x4x8x128.size a ≤ S125x128x8x128.size a) : Memref sig .scVector .hbm S15x4x8x128 .f32 :=
  arg4.slice (Rect.unit (s := S125x128x8x128) off S15x4x8x128.size h) (fun _ => rfl)

/-- A finished buffer starts on its way out to the piece at `off`, counted on `sem`. -/
abbrev send (b : Memref sig .scVector .vmem S15x4x8x128 .f32) (hb : b.IsWhole) (sem : DmaSems sig S_) (off : Fin 4 → Nat)
    (h : ∀ a, off a + S15x4x8x128.size a ≤ S125x128x8x128.size a) : Prog (E F i) PUnit :=
  Prog.lift (.enqueueDma b (.here (outAt arg4 off h)) (.dma sem.sem) hb.wordExact (View.wordExact_bits rfl) ⟨Or.inl rfl, trivial⟩)

/-- The wait for that copy. -/
abbrev drain (b : Memref sig .scVector .vmem S15x4x8x128 .f32) (hb : b.IsWhole) (sem : DmaSems sig S_) (off : Fin 4 → Nat)
    (h : ∀ a, off a + S15x4x8x128.size a ≤ S125x128x8x128.size a) : Prog (E F i) PUnit :=
  Prog.lift (.waitDma2 sem.sem b (outAt arg4 off h) hb.wordExact (View.wordExact_bits rfl))

/-- The index words come in, zeros come in to both buffers, and chunks 0 and 1 are filled and sent. -/
def start : Prog (E F i) (Σ' (v4 : IVec S16 32) (v5 : FVec F S16 .f32) (v6 : FVec F S16 .f32), IVec S16 32) := do
  Prog.lift (.enqueueDma (arg2.slice (Rect.unit (s := S16384) (k0_off1 i) S512.size (k0_off1_inb i)) (fun _ => rfl)) (.here arg5) (.dma v66_r0.sem) (View.wordExact_bits rfl) harg5.wordExact ⟨Or.inl rfl, trivial⟩)
  Prog.lift (.waitDma2 v66_r0.sem (arg2.slice (Rect.unit (s := S16384) (k0_off1 i) S512.size (k0_off1_inb i)) (fun _ => rfl)) arg5 (View.wordExact_bits rfl) harg5.wordExact)
  Prog.lift (.enqueueDma arg3 (.here arg6) (.dma arg8.sem) harg3.wordExact harg6.wordExact ⟨Or.inl rfl, trivial⟩)
  Prog.lift (.enqueueDma arg3 (.here arg7) (.dma arg9.sem) harg3.wordExact harg7.wordExact ⟨Or.inl rfl, trivial⟩)
  Prog.lift (.waitDma2 arg8.sem arg3 arg6 harg3.wordExact harg6.wordExact)
  let _ ← chunk fun k u => group1 arg5 arg6 k u 0#32 120#32 0#32
  send i arg4 arg6 harg6 arg10 (k0_off10 i) (k0_off10_inb i)
  Prog.lift (.waitDma2 arg9.sem arg3 arg7 harg3.wordExact harg7.wordExact)
  let _ ← chunk fun k u => group1 arg5 arg7 k u 120#32 240#32 15#32
  send i arg4 arg7 harg7 arg11 (k0_off19 i) (k0_off19_inb i)
  pure ⟨lanes, ones, zeros, noIdx⟩

/-- The first part printed is `start`. -/
theorem start_eq : k0_part51 (F := F) i arg2 harg2 arg3 harg3 arg4 harg4 arg5 harg5 arg6 harg6 arg7 harg7 arg8 arg9 arg10 arg11 v66_r0
    = start i arg2 arg3 harg3 arg4 arg5 harg5 arg6 harg6 arg7 harg7 arg8 arg9 arg10 arg11 v66_r0 := rfl

/-- A chunk after the second: its buffer's older copy is waited for, the older marks are cleared and the chunk's own
set, and the buffer is sent. -/
def step (b : Memref sig .scVector .vmem S15x4x8x128 .f32) (hb : b.IsWhole) (sem : DmaSems sig S_) (zoff : Fin 4 → Nat)
    (hz : ∀ a, zoff a + S15x4x8x128.size a ≤ S125x128x8x128.size a) (off : Fin 4 → Nat)
    (h : ∀ a, off a + S15x4x8x128.size a ≤ S125x128x8x128.size a) (zlo zhi zst lo hi st : BitVec 32) : Prog (E F i) PUnit := do
  drain i arg4 b hb sem zoff hz
  let _ ← chunk fun k u => group2 arg5 b k u zlo zhi zst lo hi st
  send i arg4 b hb sem off h

/-- The chunks of the second part printed. -/
def part2 : Prog (E F i) (Σ' (c0 : BitVec 32) (c1 : BitVec 32), BitVec 32) := do
  drain i arg4 arg6 harg6 arg10 (k0_off10 i) (k0_off10_inb i)
  let _ ← chunk fun k u => group2 arg5 arg6 k u 0#32 120#32 0#32 240#32 360#32 30#32
  send i arg4 arg6 harg6 arg10 (k0_off28 i) (k0_off28_inb i)
  drain i arg4 arg7 harg7 arg11 (k0_off19 i) (k0_off19_inb i)
  let _ ← chunk fun k u => group2 arg5 arg7 k u 120#32 240#32 15#32 360#32 480#32 45#32
  send i arg4 arg7 harg7 arg11 (k0_off37 i) (k0_off37_inb i)
  drain i arg4 arg6 harg6 arg10 (k0_off28 i) (k0_off28_inb i)
  pure ⟨0#32, 0#32, 4#32⟩

set_option maxHeartbeats 2000000 in
/-- The second part printed is `part2`. -/
theorem part2_eq : k0_part52 (F := F) i arg2 harg2 arg3 harg3 arg4 harg4 arg5 harg5 arg6 harg6 arg7 harg7 arg8 arg9 arg10 arg11 v66_r0 lanes ones zeros noIdx
    = part2 i arg4 arg5 arg6 harg6 arg7 harg7 arg10 arg11 := rfl

/-- The chunks of the third part printed. -/
def part3 : Prog (E F i) PUnit := do
  let _ ← chunk fun k u => group2 arg5 arg6 k u 240#32 360#32 30#32 480#32 600#32 60#32
  send i arg4 arg6 harg6 arg10 (k0_off46 i) (k0_off46_inb i)
  drain i arg4 arg7 harg7 arg11 (k0_off37 i) (k0_off37_inb i)
  let _ ← chunk fun k u => group2 arg5 arg7 k u 360#32 480#32 45#32 600#32 720#32 75#32
  send i arg4 arg7 harg7 arg11 (k0_off55 i) (k0_off55_inb i)
  drain i arg4 arg6 harg6 arg10 (k0_off46 i) (k0_off46_inb i)
  let _ ← chunk fun k u => group2 arg5 arg6 k u 480#32 600#32 60#32 720#32 840#32 90#32
  pure ⟨⟩

set_option maxHeartbeats 2000000 in
/-- The third part printed is `part3`. -/
theorem part3_eq : k0_part53 (F := F) i arg2 harg2 arg3 harg3 arg4 harg4 arg5 harg5 arg6 harg6 arg7 harg7 arg8 arg9 arg10 arg11 v66_r0 lanes ones zeros noIdx 0#32 0#32 4#32
    = part3 i arg4 arg5 arg6 harg6 arg7 harg7 arg10 arg11 := rfl

/-- The chunks of the fourth part printed. -/
def part4 : Prog (E F i) PUnit := do
  send i arg4 arg6 harg6 arg10 (k0_off64 i) (k0_off64_inb i)
  drain i arg4 arg7 harg7 arg11 (k0_off55 i) (k0_off55_inb i)
  let _ ← chunk fun k u => group2 arg5 arg7 k u 600#32 720#32 75#32 840#32 960#32 105#32
  send i arg4 arg7 harg7 arg11 (k0_off73 i) (k0_off73_inb i)
  drain i arg4 arg6 harg6 arg10 (k0_off64 i) (k0_off64_inb i)
  let _ ← chunk fun k u => group2 arg5 arg6 k u 720#32 840#32 90#32 960#32 1000#32 120#32
  pure ⟨⟩

set_option maxHeartbeats 2000000 in
/-- The fourth part printed is `part4`. -/
theorem part4_eq : k0_part54 (F := F) i arg2 harg2 arg3 harg3 arg4 harg4 arg5 harg5 arg6 harg6 arg7 harg7 arg8 arg9 arg10 arg11 v66_r0 lanes ones zeros noIdx
    = part4 i arg4 arg5 arg6 harg6 arg7 harg7 arg10 arg11 := rfl

/-- The last chunk's part of the first buffer, and where it goes. -/
abbrev lastSrc : Memref sig .scVector .vmem S5x4x8x128 .f32 :=
  arg6.slice (Rect.unit (s := S15x4x8x128) ![0, 0, 0, 0] S5x4x8x128.size inb_S15x4x8x128_S5x4x8x128_0_0_0_0) (fun _ => rfl)
abbrev lastDst : Memref sig .scVector .hbm S5x4x8x128 .f32 :=
  arg4.slice (Rect.unit (s := S125x128x8x128) (k0_off82 i) S5x4x8x128.size (k0_off82_inb i)) (fun _ => rfl)

/-- The last chunk, five deep, and the waits for the two copies still under way. -/
def finish : Prog (E F i) PUnit := do
  drain i arg4 arg6 harg6 arg10 (k0_off64 i) (k0_off64_inb i)
  let _ ← chunk fun k u => group2 arg5 arg6 k u 720#32 840#32 90#32 960#32 1000#32 120#32
  Prog.lift (.enqueueDma (lastSrc arg6) (.here (lastDst i arg4)) (.dma arg10.sem) (View.wordExact_bits rfl) (View.wordExact_bits rfl) ⟨Or.inl rfl, trivial⟩)
  drain i arg4 arg7 harg7 arg11 (k0_off73 i) (k0_off73_inb i)
  Prog.lift (.waitDma2 arg10.sem (lastSrc arg6) (lastDst i arg4) (View.wordExact_bits rfl) (View.wordExact_bits rfl))

/-- The whole body. -/
def body : Prog (E F i) PUnit := do
  let _ ← start i arg2 arg3 harg3 arg4 arg5 harg5 arg6 harg6 arg7 harg7 arg8 arg9 arg10 arg11 v66_r0
  step i arg4 arg5 arg6 harg6 arg10 (k0_off10 i) (k0_off10_inb i) (k0_off28 i) (k0_off28_inb i) 0#32 120#32 0#32 240#32 360#32 30#32
  step i arg4 arg5 arg7 harg7 arg11 (k0_off19 i) (k0_off19_inb i) (k0_off37 i) (k0_off37_inb i) 120#32 240#32 15#32 360#32 480#32 45#32
  step i arg4 arg5 arg6 harg6 arg10 (k0_off28 i) (k0_off28_inb i) (k0_off46 i) (k0_off46_inb i) 240#32 360#32 30#32 480#32 600#32 60#32
  step i arg4 arg5 arg7 harg7 arg11 (k0_off37 i) (k0_off37_inb i) (k0_off55 i) (k0_off55_inb i) 360#32 480#32 45#32 600#32 720#32 75#32
  step i arg4 arg5 arg6 harg6 arg10 (k0_off46 i) (k0_off46_inb i) (k0_off64 i) (k0_off64_inb i) 480#32 600#32 60#32 720#32 840#32 90#32
  step i arg4 arg5 arg7 harg7 arg11 (k0_off55 i) (k0_off55_inb i) (k0_off73 i) (k0_off73_inb i) 600#32 720#32 75#32 840#32 960#32 105#32
  finish i arg4 arg5 arg6 harg6 arg7 harg7 arg10 arg11

/-- The kernel's body, as the parts printed. -/
def partsBody : Prog (E F i) PUnit := do
  let ⟨v4, v5, v6, v7⟩ : Σ' (v4 : IVec S16 32) (v5 : FVec F S16 .f32) (v6 : FVec F S16 .f32), IVec S16 32 ← k0_part51 i arg2 harg2 arg3 harg3 arg4 harg4 arg5 harg5 arg6 harg6 arg7 harg7 arg8 arg9 arg10 arg11 v66_r0
  let ⟨c0, c1, c4⟩ : Σ' (c0_i32_59 : BitVec 32) (c0_i32_60 : BitVec 32), BitVec 32 ← k0_part52 i arg2 harg2 arg3 harg3 arg4 harg4 arg5 harg5 arg6 harg6 arg7 harg7 arg8 arg9 arg10 arg11 v66_r0 v4 v5 v6 v7
  k0_part53 i arg2 harg2 arg3 harg3 arg4 harg4 arg5 harg5 arg6 harg6 arg7 harg7 arg8 arg9 arg10 arg11 v66_r0 v4 v5 v6 v7 c0 c1 c4
  k0_part54 i arg2 harg2 arg3 harg3 arg4 harg4 arg5 harg5 arg6 harg6 arg7 harg7 arg8 arg9 arg10 arg11 v66_r0 v4 v5 v6 v7
  Prog.lift (.enqueueDma (lastSrc arg6) (.here (lastDst i arg4)) (.dma arg10.sem) (View.wordExact_bits rfl) (View.wordExact_bits rfl) ⟨Or.inl rfl, trivial⟩)
  drain i arg4 arg7 harg7 arg11 (k0_off73 i) (k0_off73_inb i)
  Prog.lift (.waitDma2 arg10.sem (lastSrc arg6) (lastDst i arg4) (View.wordExact_bits rfl) (View.wordExact_bits rfl))

/-- The printed body is the sequence of its parts. -/
theorem partsBody_eq : cc0_body (F := F) i arg2 harg2 arg3 harg3 arg4 harg4 arg5 harg5 arg6 harg6 arg7 harg7 arg8 arg9 arg10 arg11 v66_r0
    = partsBody i arg2 harg2 arg3 harg3 arg4 harg4 arg5 harg5 arg6 harg6 arg7 harg7 arg8 arg9 arg10 arg11 v66_r0 := rfl

/-- The printed body is this one. -/
theorem body_eq : cc0_body (F := F) i arg2 harg2 arg3 harg3 arg4 harg4 arg5 harg5 arg6 harg6 arg7 harg7 arg8 arg9 arg10 arg11 v66_r0
    = body i arg2 arg3 harg3 arg4 arg5 harg5 arg6 harg6 arg7 harg7 arg8 arg9 arg10 arg11 v66_r0 := by
  rw [partsBody_eq]
  simp only [partsBody, start_eq, start, bind_assoc, pure_bind, part2_eq, part3_eq, part4_eq, part2, part3, part4, body, step, finish]

end

end Cert.Proof.Hot

end
-- ==== Proof.Value.lean ====
/-
  What the masked stores leave in a chunk's buffer. A buffer position `j = (t, q, a, b)` of a chunk starting at class
  block `st` stands for row `128 * q + b` of the tile's 512 and for class `8 * (st + t) + a`; `Hot` says the row's word is
  that class and lies below the chunk's end.
-/
module

public import proofs.«01_k».proof.Proof.Body

@[expose] public section

noncomputable section

namespace Cert.Proof.Hot

open Cert.KernelIdeal Cert.KernelIdeal.Gen
open Idealize.ShloMosaic

variable {F : FTy → Type} [FloatOps F]

/-- Lane `l` of the sixteen. -/
abbrev lane (l : Fin 16) : S16.Idx := fun a => l.cast (by rw [Fin.eq_zero a]; rfl)
/-- Row `r` of the tile's 512. -/
abbrev rowIx (r : Nat) (h : r < 512) : S512.Idx := fun a => ⟨r, by rw [Fin.eq_zero a]; exact h⟩

/-- The row a buffer position stands for. -/
def row (j : S15x4x8x128.Idx) : Nat := (j 1).val * 128 + (j 3).val

/-- A buffer position's row is one of the tile's 512. -/
theorem row_lt (j : S15x4x8x128.Idx) : row j < 512 := by
  have h1 : (j 1).val < 4 := (j 1).isLt
  have h3 : (j 3).val < 128 := (j 3).isLt
  unfold row; omega

/-- The position's row has the position's class as its word, under the chunk's end `hi`. -/
def Hot (X : Vec F S512 .i32) (st hi : Nat) (j : S15x4x8x128.Idx) : Prop :=
  (X (rowIx (row j) (row_lt j))).toNat = 8 * (st + (j 0).val) + (j 2).val ∧ (X (rowIx (row j) (row_lt j))).toNat < hi

/-- One where `A` holds, zero elsewhere. -/
def ind (A : S15x4x8x128.Idx → Prop) : FVec F S15x4x8x128 .f32 := by
  classical exact fun j => if A j then Scalar.ofBits .f32 0x3F800000#32 else Scalar.ofBits .f32 0x00000000#32

/-- `A` on the rows of the first `n` groups, `B` on the others. -/
def mix (n : Nat) (A B : S15x4x8x128.Idx → Prop) (j : S15x4x8x128.Idx) : Prop := if row j < 16 * n then A j else B j

/-- Before the first group nothing has changed. -/
theorem mix_zero (A B : S15x4x8x128.Idx → Prop) : mix 0 A B = B := by
  funext j; simp [mix]
/-- After the last group everything has. -/
theorem mix_all (A B : S15x4x8x128.Idx → Prop) : mix 32 A B = A := by
  funext j; have := row_lt j; simp [mix, show row j < 16 * 32 by omega]

/-! ## A masked store of one value -/

/-- A choice between two values depends on its condition only up to equivalence. -/
theorem ite_iff {α : Sort _} {p q : Prop} {dp : Decidable p} {dq : Decidable q} {a b : α} (h : p ↔ q) : @ite α p dp a b = @ite α q dq a b := by
  by_cases hp : p
  · rw [if_pos hp, if_pos (h.1 hp)]
  · rw [if_neg hp, if_neg fun hq => hp (h.2 hq)]

/-- A masked store of one value over a list of lanes: the value where a set lane of the list names the position. -/
theorem storeFold {s : Shape} {d : Fin 1 → Nat} {e : EltTy} (idxs : Fin s.rank → IVec ⟨1, d⟩ 32) (h : ∀ a x, (idxs a x).toNat < s.size a)
    (mask : IVec ⟨1, d⟩ 1) (c : Elt F e) (j : s.Idx) (l : List (Fin (d 0))) (f : Vec F s e) :
    (l.foldl (fun g k =>
      let x := Shape.ofLane k
      if mask x = 1 then
        let i := idxAt idxs h x
        fun j => if (∀ a, (j a).val = (i a).val) then c else g j
      else g) f) j
      = @ite _ (∃ k ∈ l, mask (Shape.ofLane k) = 1 ∧ ∀ a, (j a).val = (idxs a (Shape.ofLane k)).toNat) (Classical.propDecidable _) c (f j) := by
  induction l generalizing f with
  | nil => simp
  | cons k l ih =>
    rw [List.foldl_cons, ih]
    by_cases hl : ∃ k ∈ l, mask (Shape.ofLane k) = 1 ∧ ∀ a, (j a).val = (idxs a (Shape.ofLane k)).toNat
    · rw [if_pos hl, if_pos]
      obtain ⟨k', hk', hm⟩ := hl
      exact ⟨k', List.mem_cons_of_mem _ hk', hm⟩
    · rw [if_neg hl]
      by_cases hk : mask (Shape.ofLane k) = 1 ∧ ∀ a, (j a).val = (idxs a (Shape.ofLane k)).toNat
      · refine Eq.trans ?_ (if_pos ⟨k, List.mem_cons_self, hk⟩).symm
        dsimp only
        rw [if_pos hk.1]
        exact if_pos fun a => hk.2 a
      · have hn : ¬ ∃ k' ∈ k :: l, mask (Shape.ofLane k') = 1 ∧ ∀ a, (j a).val = (idxs a (Shape.ofLane k')).toNat := by
          rintro ⟨k', hk', hm⟩
          rcases List.mem_cons.mp hk' with e | hk'
          · exact hk (e ▸ hm)
          · exact hl ⟨k', hk', hm⟩
        refine Eq.trans ?_ (if_neg hn).symm
        dsimp only
        by_cases hm : mask (Shape.ofLane k) = 1
        · rw [if_pos hm]
          exact if_neg fun ha => hk ⟨hm, fun a => ha a⟩
        · rw [if_neg hm]

/-- The whole store: the value where some set lane names the position. -/
theorem storeIdx_const {s : Shape} {d : Fin 1 → Nat} {e : EltTy} (f : Vec F s e) (idxs : Fin s.rank → IVec ⟨1, d⟩ 32)
    (h : ∀ a x, (idxs a x).toNat < s.size a) (mask : IVec ⟨1, d⟩ 1) (v : Vec F ⟨1, d⟩ e) (c : Elt F e) (hv : ∀ x, v x = c) (j : s.Idx) :
    storeIdx f idxs v mask false h j
      = @ite _ (∃ k, mask (Shape.ofLane k) = 1 ∧ ∀ a, (j a).val = (idxs a (Shape.ofLane k)).toNat) (Classical.propDecidable _) c (f j) := by
  have hv' : v = fun _ => c := funext hv
  subst hv'
  have := storeFold (F := F) idxs h mask c j (List.finRange (d 0)) f
  unfold storeIdx
  simp only [List.mem_finRange, true_and] at this
  simp only [Bool.false_eq_true, if_false]
  exact this.trans (ite_iff Iff.rfl)

/-! ## The coordinates a group stores at -/

/-- A lane is set when its word lies from `lo` up to `hi`, the bounds being at most 1000. -/
theorem inRange_iff (w : IVec S16 32) (lo hi : Nat) (hlo : lo ≤ 1000) (hhi : hi ≤ 1000) (x : S16.Idx) :
    inRange w (BitVec.ofNat 32 lo) (BitVec.ofNat 32 hi) x = 1 ↔ lo ≤ (w x).toNat ∧ (w x).toNat < hi := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  show IntOp.andi (IntOp.cmpi .sge (w x) (BitVec.ofNat 32 lo)) (IntOp.cmpi .slt (w x) (BitVec.ofNat 32 hi)) = 1#1 ↔ _
  simp only [IntOp.cmpi, andi_ofBool, ofBool_eq_one, Bool.and_eq_true, BitVec.sle_eq_decide, BitVec.slt_eq_decide,
    decide_eq_true_eq, BitVec.toInt_eq_toNat_cond, BitVec.toNat_ofNat]
  have := (w x).isLt
  omega

/-- Group `u` of trip `k` is number `8 k + u`. -/
theorem gword_eq : ∀ (k : Fin lp.trips) (u : Fin 8), gword k u = BitVec.ofNat 32 (8 * k.val + u.val) := by decide
/-- Its words start at sixteen times its number. -/
theorem goff_eq : ∀ (k : Fin lp.trips) (u : Fin 8), goff k u 0 = 16 * (8 * k.val + u.val) := by decide
/-- The loop makes four trips. -/
theorem trips_eq : lp.trips = 4 := by decide

/-- Lane `l` holds `l`. -/
theorem lanes_apply : ∀ l : Fin 16, (lanes (lane l)).toNat = l.val := by decide

/-- A group's rows lie in row block `G / 8`. -/
theorem coord1 : ∀ (G : Fin 32), (Scalar.shrui (BitVec.ofNat 32 G.val) 3#32).toNat = G.val / 8 := by decide
/-- Lane `l` of a group stands for row `16 (G mod 8) + l` of that block. -/
theorem coord3 : ∀ (G : Fin 32) (l : Fin 16), (Scalar.addi (Scalar.shli (Scalar.andi (BitVec.ofNat 32 G.val) 7#32) 4#32) (lanes (lane l))).toNat = G.val % 8 * 16 + l.val := by
  decide

/-- A word shifted right by three, as a natural. -/
theorem shr3 (x : BitVec 32) : (IntOp.shrui .vector x 3#32).toNat = x.toNat / 8 := by
  simp [IntOp.shrui, Nat.shiftRight_eq_div_pow]
/-- A word's low three bits, as a natural. -/
theorem and7 (x : BitVec 32) : (IntOp.andi x 7#32).toNat = x.toNat % 8 := by
  simp only [IntOp.andi, BitVec.toNat_and, BitVec.toNat_ofNat]
  exact Nat.and_two_pow_sub_one_eq_mod x.toNat 3
/-- A word less one that is not larger, as a natural. -/
theorem sub_st (x : BitVec 32) (st : Nat) (h : st ≤ x.toNat) : (IntOp.subi x (BitVec.ofNat 32 st)).toNat = x.toNat - st := by
  have := x.isLt
  simp only [IntOp.subi, BitVec.toNat_sub, BitVec.toNat_ofNat]
  omega

section Coords

variable (w : IVec S16 32) (G : Fin 32) (lo hi st : Nat)

abbrev cs : Fin 4 → IVec S16 32 := coordsOf w (BitVec.ofNat 32 G.val) (BitVec.ofNat 32 lo) (BitVec.ofNat 32 hi) (BitVec.ofNat 32 st)

/-- The second coordinate of a lane is its group's row block. -/
theorem cs1 (x : S16.Idx) : (cs w G lo hi st 1 x).toNat = G.val / 8 := coord1 G
/-- The third is its word modulo eight. -/
theorem cs2 (x : S16.Idx) : (cs w G lo hi st 2 x).toNat = (w x).toNat % 8 := and7 _
/-- The fourth is its row in the block. -/
theorem cs3 (l : Fin 16) : (cs w G lo hi st 3 (lane l)).toNat = G.val % 8 * 16 + l.val := coord3 G l

/-- The first, of a lane that is set, is its word's group of eight less the chunk's first. -/
theorem cs0_in (hlo : lo = 8 * st) (hlo' : lo ≤ 1000) (hhi : hi ≤ 1000) (x : S16.Idx) (hx : lo ≤ (w x).toNat ∧ (w x).toNat < hi) :
    (cs w G lo hi st 0 x).toNat = (w x).toNat / 8 - st := by
  have hm : inRange w (BitVec.ofNat 32 lo) (BitVec.ofNat 32 hi) x = 1 := (inRange_iff w lo hi hlo' hhi x).2 hx
  show (Scalar.select (inRange w (BitVec.ofNat 32 lo) (BitVec.ofNat 32 hi) x) (IntOp.subi (IntOp.shrui .vector (w x) 3#32) (BitVec.ofNat 32 st)) 0#32).toNat = _
  rw [hm, show ∀ a b : BitVec 32, Scalar.select 1 a b = a from fun a b => rfl, sub_st _ _ (by rw [shr3]; omega), shr3]

/-- The first, of a lane that is not set, is zero. -/
theorem cs0_out (hlo' : lo ≤ 1000) (hhi : hi ≤ 1000) (x : S16.Idx) (hx : ¬ (lo ≤ (w x).toNat ∧ (w x).toNat < hi)) :
    (cs w G lo hi st 0 x).toNat = 0 := by
  have hm : inRange w (BitVec.ofNat 32 lo) (BitVec.ofNat 32 hi) x ≠ 1 := fun h => hx ((inRange_iff w lo hi hlo' hhi x).1 h)
  show (Scalar.select (inRange w (BitVec.ofNat 32 lo) (BitVec.ofNat 32 hi) x) (IntOp.subi (IntOp.shrui .vector (w x) 3#32) (BitVec.ofNat 32 st)) 0#32).toNat = _
  generalize inRange w (BitVec.ofNat 32 lo) (BitVec.ofNat 32 hi) x = b at hm
  have : b = 0 := by revert hm; revert b; decide
  subst this; rfl

/-- Every lane's coordinates lie in the buffer, whatever its word: the check the store asks for. -/
theorem chk_ok (hlo : lo = 8 * st) (hw : hi ≤ lo + 120) (hlo' : lo ≤ 1000) (hhi : hi ≤ 1000) :
    k0_chk1 (cs w G lo hi st 2) (cs w G lo hi st 1) (cs w G lo hi st 3) (cs w G lo hi st 0) := by
  intro a x
  obtain ⟨l, rfl⟩ : ∃ l : Fin 16, x = lane l := ⟨x 0, by funext a; rw [Fin.eq_zero a]; rfl⟩
  have hG := G.isLt
  have hl := l.isLt
  match a with
  | 0 =>
    show (cs w G lo hi st 0 (lane l)).toNat < 15
    by_cases hx : lo ≤ (w (lane l)).toNat ∧ (w (lane l)).toNat < hi
    · rw [cs0_in w G lo hi st hlo hlo' hhi _ hx]; omega
    · rw [cs0_out w G lo hi st hlo' hhi _ hx]; omega
  | 1 => show (cs w G lo hi st 1 (lane l)).toNat < 4; rw [cs1]; omega
  | 2 => show (cs w G lo hi st 2 (lane l)).toNat < 8; rw [cs2]; omega
  | 3 => show (cs w G lo hi st 3 (lane l)).toNat < 128; rw [cs3]; omega

/-- A group's store of one value `c`: `c` at the group's rows where the word is the class, the rest as it was. -/
theorem store_group (X : Vec F S512 .i32) (hX : ∀ l : Fin 16, w (lane l) = X (rowIx (16 * G.val + l.val) (by have := G.isLt; have := l.isLt; omega)))
    (hlo : lo = 8 * st) (hlo' : lo ≤ 1000) (hhi : hi ≤ 1000)
    (h : ∀ a x, (cs w G lo hi st a x).toNat < S15x4x8x128.size a) (V : FVec F S15x4x8x128 .f32) (v : FVec F S16 .f32) (c : F .f32) (hv : ∀ x, v x = c)
    (j : S15x4x8x128.Idx) :
    storeIdx (F := F) (e := .f32) V (cs w G lo hi st) v (inRange w (BitVec.ofNat 32 lo) (BitVec.ofNat 32 hi)) false h j
      = @ite _ (row j / 16 = G.val ∧ Hot X st hi j) (Classical.propDecidable _) c (V j) := by
  refine (storeIdx_const (F := F) (e := .f32) V (cs w G lo hi st) h _ v c hv j).trans (ite_iff ?_)
  have h0 : (j 0).val < 15 := (j 0).isLt
  have h1 : (j 1).val < 4 := (j 1).isLt
  have h2 : (j 2).val < 8 := (j 2).isLt
  have h3 : (j 3).val < 128 := (j 3).isLt
  have hG := G.isLt
  constructor
  · rintro ⟨k, hk, ha⟩
    obtain ⟨l, hl⟩ : ∃ l : Fin 16, Shape.ofLane (d := S16.size) k = lane l := ⟨k, rfl⟩
    rw [hl] at hk ha
    have hin := (inRange_iff w lo hi hlo' hhi _).1 hk
    have a0 : (j 0).val = _ := (ha 0).trans (cs0_in w G lo hi st hlo hlo' hhi _ hin)
    have a1 : (j 1).val = _ := (ha 1).trans (cs1 w G lo hi st _)
    have a2 : (j 2).val = _ := (ha 2).trans (cs2 w G lo hi st _)
    have a3 : (j 3).val = _ := (ha 3).trans (cs3 w G lo hi st l)
    have hll := l.isLt
    have hr : row j = 16 * G.val + l.val := by unfold row; omega
    have hx : X (rowIx (row j) (row_lt j)) = w (lane l) := by
      rw [hX l]; congr 1; funext a; exact Fin.ext hr
    unfold Hot; rw [hx]
    omega
  · rintro ⟨hr, hot, hlt⟩
    have hl : row j % 16 < 16 := Nat.mod_lt _ (by decide)
    have hrow : row j = 16 * G.val + row j % 16 := by omega
    have hx : X (rowIx (row j) (row_lt j)) = w (lane ⟨row j % 16, hl⟩) := by
      rw [hX ⟨row j % 16, hl⟩]; congr 1; funext a; exact Fin.ext hrow
    rw [hx] at hot hlt
    have hin : lo ≤ (w (lane ⟨row j % 16, hl⟩)).toNat ∧ (w (lane ⟨row j % 16, hl⟩)).toNat < hi := by omega
    have hrw : row j = (j 1).val * 128 + (j 3).val := rfl
    have e0 : (j 0).val = (w (lane ⟨row j % 16, hl⟩)).toNat / 8 - st := by omega
    have e1 : (j 1).val = G.val / 8 := by omega
    have e2 : (j 2).val = (w (lane ⟨row j % 16, hl⟩)).toNat % 8 := by omega
    have e3 : (j 3).val = G.val % 8 * 16 + row j % 16 := by omega
    refine ⟨(⟨row j % 16, hl⟩ : Fin 16), (inRange_iff w lo hi hlo' hhi _).2 hin, fun a => ?_⟩
    match a with
    | 0 => exact e0.trans (cs0_in w G lo hi st hlo hlo' hhi _ hin).symm
    | 1 => exact e1.trans (cs1 w G lo hi st _).symm
    | 2 => exact e2.trans (cs2 w G lo hi st _).symm
    | 3 => exact e3.trans (cs3 w G lo hi st ⟨row j % 16, hl⟩).symm

end Coords

/-- Marking group `G` of `A` over a buffer that holds `B` nowhere on that group takes the mix one group further. -/
theorem mark_step (G : Nat) (A B : S15x4x8x128.Idx → Prop) (V : FVec F S15x4x8x128 .f32)
    (hV : ∀ j, V j = if row j / 16 = G then Scalar.ofBits .f32 0x00000000#32 else ind (F := F) (mix G A B) j) :
    (fun j => @ite _ (row j / 16 = G ∧ A j) (Classical.propDecidable _) (Scalar.ofBits .f32 0x3F800000#32) (V j)) = ind (F := F) (mix (G + 1) A B) := by
  funext j
  rw [hV]
  by_cases hr : row j / 16 = G
  · have h1 : mix (G + 1) A B j = A j := by unfold mix; rw [if_pos (by omega)]
    unfold ind; rw [h1]
    by_cases hA : A j
    · rw [if_pos ⟨hr, hA⟩, if_pos hA]
    · rw [if_neg (fun h => hA h.2), if_pos hr, if_neg hA]
  · have h1 : mix (G + 1) A B j = mix G A B j := by
      unfold mix; by_cases h : row j < 16 * G
      · rw [if_pos h, if_pos (by omega)]
      · rw [if_neg h, if_neg (by omega)]
    unfold ind; rw [h1, if_neg (fun h => hr h.1), if_neg hr]

/-- Clearing group `G`'s marks of `B`. -/
theorem clear_step (G : Nat) (A B : S15x4x8x128.Idx → Prop) (j : S15x4x8x128.Idx) :
    @ite _ (row j / 16 = G ∧ B j) (Classical.propDecidable _) (Scalar.ofBits .f32 0x00000000#32) (ind (F := F) (mix G A B) j)
      = if row j / 16 = G then Scalar.ofBits .f32 0x00000000#32 else ind (F := F) (mix G A B) j := by
  by_cases hr : row j / 16 = G
  · have h1 : mix G A B j = B j := by unfold mix; rw [if_neg (by omega)]
    rw [if_pos hr]
    by_cases hB : B j
    · rw [if_pos ⟨hr, hB⟩]
    · rw [if_neg (fun h => hB h.2)]; unfold ind; rw [h1, if_neg hB]
  · rw [if_neg (fun h => hr h.1), if_neg hr]

/-- A buffer with no marks is already zero on every group. -/
theorem blank_step (G : Nat) (A : S15x4x8x128.Idx → Prop) (j : S15x4x8x128.Idx) :
    ind (F := F) (mix G A fun _ => False) j
      = if row j / 16 = G then Scalar.ofBits .f32 0x00000000#32 else ind (F := F) (mix G A fun _ => False) j := by
  by_cases hr : row j / 16 = G
  · have h1 : mix G A (fun _ => False) j = False := by unfold mix; rw [if_neg (by omega)]
    rw [if_pos hr]; unfold ind; rw [h1, if_neg not_false]
  · rw [if_neg hr]

end Cert.Proof.Hot

end
-- ==== Proof.Chunk.lean ====
/-
  One chunk's loop run on a vector subcore: from the buffer's contents before it to the chunk's marks.
-/
module

public import proofs.«01_k».proof.Proof.Value
public import Idealize.ShloMosaic.Lib.SparseCore.Ops

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The SparseCore and the vector subcore at grid coordinates, and the thread there. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

section

variable (d : Dev nD) (L : grid0.Coords)

/-- A buffer held outright at contents that read `A`. -/
def Held (b : Memref sig .scVector .vmem S15x4x8x128 .f32) (A : FVec F S15x4x8x128 .f32) : sProp 𝕄 :=
  iprop(∃ f, ⌜b.view.read (Elt F) f = A⌝ ∗ (b.view.loc (VT d L) ↦[b.view.set]{fullShare} f))

/-- The index words held at contents that read `X`. -/
def Words (x : Memref sig .scVector .vmem S512 .i32) (X : Vec F S512 .i32) : sProp 𝕄 :=
  iprop(∃ f, ⌜x.view.read (Elt F) f = X⌝ ∗ (x.view.loc (VT d L) ↦[x.view.set]{fullShare} f))

/-- A run of two programs in turn. -/
theorem wp_seq {α : Type} {β : Type} {p : Prog (E F L) α} {q : α → Prog (E F L) β} {H : sProp 𝕄} {M : α → sProp 𝕄} {Q : β → sProp 𝕄}
    (hp : H ⊢ wp frame (wpE (defs₀ (F := F)) 𝒱₀ (VT d L) none) Set.univ p M)
    (hq : ∀ a, M a ⊢ wp frame (wpE (defs₀ (F := F)) 𝒱₀ (VT d L) none) Set.univ (q a) Q) :
    H ⊢ wp frame (wpE (defs₀ (F := F)) 𝒱₀ (VT d L) none) Set.univ (p >>= q) Q := by
  rw [wp_bind]
  iintro H
  iapply (wp_wand_r Idealize.ShloMosaic.frame (wpE (defs₀ (F := F)) 𝒱₀ (VT d L) none) Set.univ)
  isplitl [H]
  · iapply hp; iexact H
  iintro %a HM
  iapply (hq a); iexact HM

variable (b : Memref sig .scVector .vmem S15x4x8x128 .f32) (x : Memref sig .scVector .vmem S512 .i32)

/-- The check a store makes gives that every lane's coordinates lie in the buffer. -/
theorem inb_of (w : IVec S16 32) (g lo hi st : BitVec 32)
    (h : k0_chk1 (coordsOf w g lo hi st 2) (coordsOf w g lo hi st 1) (coordsOf w g lo hi st 3) (coordsOf w g lo hi st 0)) :
    ∀ a y, (coordsOf w g lo hi st a y).toNat < S15x4x8x128.size a := k0_idx1_inb _ _ _ _ h

/-- A store as the check, then the indexed store ahead of the end. -/
theorem put_eq {i : grid0.Coords} (w : IVec S16 32) (g lo hi st : BitVec 32) (v : FVec F S16 .f32) :
    put (i := i) b w g lo hi st v = .op (.assume _ (k0_chk1.dec (coordsOf w g lo hi st 2) (coordsOf w g lo hi st 1) (coordsOf w g lo hi st 3) (coordsOf w g lo hi st 0)))
      fun h => SparseCore.vectorStoreIdx b (coordsOf w g lo hi st) v (inRange w lo hi) false (inb_of w g lo hi st h.down) (View.stores_vmem_bits_univ h_S15x4x8x128 rfl)
        >>= fun u => .ret u := by
  unfold put
  show Prog.op _ _ = _
  congr 1

/-- The whole of a buffer, accessed, is the buffer's own region. -/
theorem access_set : (b.access (.whole S15x4x8x128)).set = b.view.set := by
  show (b.view.slice (.whole S15x4x8x128)).set = _
  rw [View.set_slice, Rect.set_whole]; rfl

/-- Holding a buffer through an access to its whole is holding the buffer. -/
theorem access_pointsTo (g : Buf (Elt F) (b.view.loc (VT d L))) :
    ((b.access (.whole S15x4x8x128)).loc (VT d L) ↦[(b.access (.whole S15x4x8x128)).set]{fullShare} g : sProp 𝕄)
      = (b.view.loc (VT d L) ↦[b.view.set]{fullShare} g) := by
  rw [access_set]

/-- An access to the whole of a buffer reads what the buffer reads. -/
theorem access_read (f : Buf (Elt F) (b.view.loc (VT d L))) : (b.access (.whole S15x4x8x128)).read (Elt F) f = b.view.read (Elt F) f := by
  funext j
  rw [View.read_apply, View.read_apply]
  have : (b.access (.whole S15x4x8x128)).emb j = b.view.emb j := congrArg b.view.emb (Rect.emb_whole_apply (s := S15x4x8x128) j)
  rw [this]

/-- A store of one value: at the group's rows, the positions of the chunk that their words name get the value, and the rest stays. -/
theorem wp_put (w : IVec S16 32) (G : Fin 32) (lo hi st : Nat) (X : Vec F S512 .i32)
    (hX : ∀ l : Fin 16, w (lane l) = X (rowIx (16 * G.val + l.val) (by have := G.isLt; have := l.isLt; omega)))
    (hlo : lo = 8 * st) (hw : hi ≤ lo + 120) (hlo' : lo ≤ 1000) (hhi : hi ≤ 1000)
    (v : FVec F S16 .f32) (c : F .f32) (hv : ∀ y, v y = c) (A : FVec F S15x4x8x128 .f32) :
    (Held d L b A : sProp 𝕄)
      ⊢ wp frame (wpE (defs₀ (F := F)) 𝒱₀ (VT d L) none) Set.univ
          (put (i := L) b w (BitVec.ofNat 32 G.val) (BitVec.ofNat 32 lo) (BitVec.ofNat 32 hi) (BitVec.ofNat 32 st) v)
          fun _ => Held d L b (fun j => @ite _ (row j / 16 = G.val ∧ Hot X st hi j) (Classical.propDecidable _) c (A j)) := by
  unfold Held
  iintro ⟨%f, %hf, Hb⟩
  rw [put_eq]
  iapply (wp_assume 𝒱₀ (VT d L) none Set.univ (chk_ok w G lo hi st hlo hw hlo' hhi))
  ihave Hb' := (Entails.of_eq (access_pointsTo d L b f).symm) $$ Hb
  iapply (SparseCore.wp_vectorStoreIdx 𝒱₀ (VT d L) none Set.univ (base := b)) $$ Hb'
  iintro Hb
  rw [wp_ret]
  imodintro
  iexists _
  isplitr
  rotate_left
  · ihave Hb' := (Entails.of_eq (access_pointsTo d L b _)) $$ Hb
    iexact Hb'
  ipureintro
  refine ((access_read d L b _).symm.trans (View.read_write_univ _ _)).trans ?_
  funext j
  rw [access_read d L b f, hf]
  exact store_group w G lo hi st X hX hlo hlo' hhi _ A v c hv j

/-! ## A group, a trip, a chunk -/

/-- What group `G` of a chunk does to the buffer, the words kept. -/
def GroupSpec (p : Prog (E F L) PUnit) (X : Vec F S512 .i32) (A B : S15x4x8x128.Idx → Prop) (G : Nat) : Prop :=
  (iprop(Words d L x X ∗ Held d L b (ind (F := F) (mix G A B))) : sProp 𝕄)
    ⊢ wp frame (wpE (defs₀ (F := F)) 𝒱₀ (VT d L) none) Set.univ p
        fun _ => iprop(Words d L x X ∗ Held d L b (ind (F := F) (mix (G + 1) A B)))

/-- The load of a group's words. -/
theorem wp_words (k : Fin lp.trips) (u : Fin 8) (X : Vec F S512 .i32) {Q : PUnit → sProp 𝕄} (q : Vec F S16 .i32 → Prog (E F L) PUnit)
    (R : sProp 𝕄)
    (hq : ∀ w : Vec F S16 .i32, (∀ l : Fin 16, w (lane l) = X (rowIx (16 * (8 * k.val + u.val) + l.val) (by
        have hk : k.val < 4 := k.isLt; have := u.isLt; have := l.isLt; omega))) →
      (iprop(Words d L x X ∗ R) ⊢ wp frame (wpE (defs₀ (F := F)) 𝒱₀ (VT d L) none) Set.univ (q w) Q)) :
    iprop(Words d L x X ∗ R)
      ⊢ wp frame (wpE (defs₀ (F := F)) 𝒱₀ (VT d L) none) Set.univ
          (Prog.lift (.load x (Rect.unit (s := S512) (goff k u) S16.size (goff_inb k u)).toLoadRect (View.loadsAt_vmem h_S16)) >>= q) Q := by
  rw [show (Prog.lift (.load x (Rect.unit (s := S512) (goff k u) S16.size (goff_inb k u)).toLoadRect (View.loadsAt_vmem h_S16)) >>= q : Prog (E F L) PUnit)
    = .op (.load x (Rect.unit (s := S512) (goff k u) S16.size (goff_inb k u)).toLoadRect (View.loadsAt_vmem h_S16)) q from rfl]
  unfold Words
  iintro ⟨⟨%f, %hf, Hx⟩, HR⟩
  iapply (wp_load 𝒱₀ (VT d L) none Set.univ (m := x) (S := x.view.set) (k := q) (by
    rw [← View.setOn_univ]; exact Finset.map_subset_map.mpr (Finset.subset_univ _))) $$ Hx
  iintro Hx
  iapply (hq _ ?_)
  rotate_left
  · isplitl [Hx]
    · unfold Words
      iexists f; isplitr; · ipureintro; exact hf
      iexact Hx
    · iexact HR
  · intro l
    rw [View.readAt_apply, ← hf]
    congr 1; funext a
    rw [Fin.eq_zero a]
    apply Fin.ext
    show goff k u 0 + 1 * l.val = _
    rw [goff_eq]; show _ = 16 * (8 * k.val + u.val) + l.val; omega

/-- Every lane of the ones is a one. -/
theorem ones_val (y : S16.Idx) : (ones (F := F)) y = Scalar.ofBits .f32 0x3F800000#32 := rfl
/-- Every lane of the zeros is a zero. -/
theorem zeros_val (y : S16.Idx) : (zeros (F := F)) y = Scalar.ofBits .f32 0x00000000#32 := rfl

/-- The store of a chunk's marks over a group that holds none. -/
theorem wp_mark (w : IVec S16 32) (k : Fin lp.trips) (u : Fin 8) (lo hi st : Nat) (X : Vec F S512 .i32)
    (hX : ∀ l : Fin 16, w (lane l) = X (rowIx (16 * (8 * k.val + u.val) + l.val) (by
        have hk : k.val < 4 := k.isLt; have := u.isLt; have := l.isLt; omega)))
    (hlo : lo = 8 * st) (hw : hi ≤ lo + 120) (hlo' : lo ≤ 1000) (hhi : hi ≤ 1000) (B : S15x4x8x128.Idx → Prop)
    (V : FVec F S15x4x8x128 .f32)
    (hV : ∀ j, V j = if row j / 16 = 8 * k.val + u.val then Scalar.ofBits .f32 0x00000000#32 else ind (F := F) (mix (8 * k.val + u.val) (Hot X st hi) B) j) :
    (iprop(Words d L x X ∗ Held d L b V) : sProp 𝕄)
      ⊢ wp frame (wpE (defs₀ (F := F)) 𝒱₀ (VT d L) none) Set.univ
          (put (i := L) b w (gword k u) (BitVec.ofNat 32 lo) (BitVec.ofNat 32 hi) (BitVec.ofNat 32 st) ones)
          fun _ => iprop(Words d L x X ∗ Held d L b (ind (F := F) (mix (8 * k.val + u.val + 1) (Hot X st hi) B))) := by
  have hk : k.val < 4 := k.isLt
  have hu := u.isLt
  rw [gword_eq]
  iintro ⟨HX, Hb⟩
  iapply (wp_wand_r Idealize.ShloMosaic.frame (wpE (defs₀ (F := F)) 𝒱₀ (VT d L) none) Set.univ)
  isplitl [Hb]
  · iapply (wp_put d L b w ⟨8 * k.val + u.val, by omega⟩ lo hi st X hX hlo hw hlo' hhi ones _ ones_val V); iexact Hb
  iintro %_ Hb
  isplitl [HX]; · iexact HX
  rw [mark_step (8 * k.val + u.val) (Hot X st hi) B V hV]
  iexact Hb

/-- A group of a chunk over a buffer of zeros. -/
theorem group1_spec (k : Fin lp.trips) (u : Fin 8) (lo hi st : Nat) (X : Vec F S512 .i32)
    (hlo : lo = 8 * st) (hw : hi ≤ lo + 120) (hlo' : lo ≤ 1000) (hhi : hi ≤ 1000) :
    GroupSpec d L b x (group1 (i := L) x b k u (BitVec.ofNat 32 lo) (BitVec.ofNat 32 hi) (BitVec.ofNat 32 st)) X
      (Hot X st hi) (fun _ => False) (8 * k.val + u.val) := by
  unfold GroupSpec group1
  refine wp_words d L x k u X _ _ fun w hX => ?_
  exact wp_mark d L b x w k u lo hi st X hX hlo hw hlo' hhi _ _ (blank_step _ _)

/-- A group of a chunk over a buffer that holds an older chunk's marks. -/
theorem group2_spec (k : Fin lp.trips) (u : Fin 8) (zlo zhi zst lo hi st : Nat) (X : Vec F S512 .i32)
    (hzlo : zlo = 8 * zst) (hzw : zhi ≤ zlo + 120) (hzlo' : zlo ≤ 1000) (hzhi : zhi ≤ 1000)
    (hlo : lo = 8 * st) (hw : hi ≤ lo + 120) (hlo' : lo ≤ 1000) (hhi : hi ≤ 1000) :
    GroupSpec d L b x (group2 (i := L) x b k u (BitVec.ofNat 32 zlo) (BitVec.ofNat 32 zhi) (BitVec.ofNat 32 zst) (BitVec.ofNat 32 lo) (BitVec.ofNat 32 hi) (BitVec.ofNat 32 st)) X
      (Hot X st hi) (Hot X zst zhi) (8 * k.val + u.val) := by
  unfold GroupSpec group2
  refine wp_words d L x k u X _ _ fun w hX => ?_
  have hk : k.val < 4 := k.isLt
  have hu := u.isLt
  refine wp_seq d L (M := fun _ => iprop(Words d L x X ∗ Held d L b (fun j => @ite _ (row j / 16 = 8 * k.val + u.val ∧ Hot X zst zhi j) (Classical.propDecidable _)
    (Scalar.ofBits .f32 0x00000000#32) (ind (F := F) (mix (8 * k.val + u.val) (Hot X st hi) (Hot X zst zhi)) j)))) ?_ fun _ => ?_
  · rw [gword_eq]
    iintro ⟨HX, Hb⟩
    iapply (wp_wand_r Idealize.ShloMosaic.frame (wpE (defs₀ (F := F)) 𝒱₀ (VT d L) none) Set.univ)
    isplitl [Hb]
    · iapply (wp_put d L b w ⟨8 * k.val + u.val, by omega⟩ zlo zhi zst X hX hzlo hzw hzlo' hzhi zeros _ zeros_val _); iexact Hb
    iintro %_ Hb
    isplitl [HX]; · iexact HX
    iexact Hb
  · exact wp_mark d L b x w k u lo hi st X hX hlo hw hlo' hhi _ _ (clear_step _ _ _)

/-- Groups in order, from the `n`-th on. -/
theorem wp_groups (p : Fin 8 → Prog (E F L) PUnit) (X : Vec F S512 .i32) (A B : S15x4x8x128.Idx → Prop) (n : Nat)
    (hp : ∀ u : Fin 8, GroupSpec d L b x (p u) X A B (n + u.val)) :
    ∀ (us : List (Fin 8)) (s : Nat), us.map Fin.val = List.range' s us.length →
      ((iprop(Words d L x X ∗ Held d L b (ind (F := F) (mix (n + s) A B))) : sProp 𝕄)
        ⊢ wp frame (wpE (defs₀ (F := F)) 𝒱₀ (VT d L) none) Set.univ (groups (i := L) p us)
            fun _ => iprop(Words d L x X ∗ Held d L b (ind (F := F) (mix (n + (s + us.length)) A B))))
  | [], s, _ => by
    unfold groups
    rw [wp_pure]
    iintro H; imodintro; iexact H
  | u :: us, s, h => by
    simp only [List.map_cons, List.length_cons, List.range'_succ, List.cons.injEq] at h
    unfold groups
    refine wp_seq d L (M := fun _ => iprop(Words d L x X ∗ Held d L b (ind (F := F) (mix (n + (s + 1)) A B)))) ?_ fun _ => ?_
    · have := hp u
      unfold GroupSpec at this
      rw [h.1] at this
      exact this
    · have := wp_groups p X A B n hp us (s + 1) h.2
      rwa [show s + 1 + us.length = s + (us.length + 1) by omega] at this

/-- A chunk's four trips: every group of the chunk marked. -/
theorem wp_chunk (p : Fin lp.trips → Fin 8 → Prog (E F L) PUnit) (X : Vec F S512 .i32) (A B : S15x4x8x128.Idx → Prop)
    (hp : ∀ k u, GroupSpec d L b x (p k u) X A B (8 * k.val + u.val)) :
    (iprop(Words d L x X ∗ Held d L b (ind (F := F) B)) : sProp 𝕄)
      ⊢ wp frame (wpE (defs₀ (F := F)) 𝒱₀ (VT d L) none) Set.univ (chunk (i := L) p)
          fun _ => iprop(Words d L x X ∗ Held d L b (ind (F := F) A)) := by
  iintro H
  iapply (Scf.wp_for Idealize.ShloMosaic.frame (wpE (defs₀ (F := F)) 𝒱₀ (VT d L) none) Set.univ _ _ _ lp_ok 0#32
    (fun k _ => groups (p k) [0, 1, 2, 3, 4, 5, 6, 7])
    (fun n _ => iprop(Words d L x X ∗ Held d L b (ind (F := F) (mix (8 * n) A B)))) ?_)
  rotate_left
  · rw [show Scf.trips 0#32 4#32 1#32 = 4 from trips_eq, mix_zero, show 8 * 4 = 32 from rfl, mix_all]
    isplitl [H]; · iexact H
    iintro %_ H; iexact H
  · intro k acc
    exact wp_groups d L b x (p k) X A B (8 * k.val) (hp k) [0, 1, 2, 3, 4, 5, 6, 7] 0 rfl

end

end Cert.Proof.Hot

end
-- ==== Proof.Copy.lean ====
/-
  Copies between a vector subcore's buffers and the chip's memory: starting one, waiting for it, and a chunk between
  a wait and the next start.
-/
module

public import proofs.«01_k».proof.Proof.Chunk
public import Idealize.ShloMosaic.Lib.Transfers

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The transfers' counters. -/
abbrev EC : UEmb Counters (MT nD τ sig (HIx 1) (Elt F) ℕ UU ℕ) := countersEmb

section

variable (d : Dev nD) (L : grid0.Coords)

/-- A view's elements held at a share, at contents that read `A`. -/
def Got {sp : Space} {s : Shape} {e : EltTy} (m : Memref sig .scVector sp s e) (q : PosShare TreeShare) (A : Vec F s e) : sProp 𝕄 :=
  iprop(∃ f, ⌜m.view.read (Elt F) f = A⌝ ∗ (m.view.loc (VT d L) ↦[m.view.set]{q} f))

/-- A view's elements held outright, at any contents. -/
def Blank {sp : Space} {s : Shape} {e : EltTy} (m : Memref sig .scVector sp s e) : sProp 𝕄 :=
  iprop(∃ f, m.view.loc (VT d L) ↦[m.view.set]{fullShare} f)

/-- A copy under way: at its wait it gives the destination, reading what the source read, and the source's share back. -/
def Flew {sp sp' : Space} {s : Shape} {e : EltTy} (src : Memref sig .scVector sp s e) (dst : Memref sig .scVector sp' s e)
    (sem : DmaSem sig) (q : PosShare TreeShare) (A : Vec F s e) : sProp 𝕄 :=
  Transfers.Flight (EC (F := F)) (VT d L) (.dma sem) (default : HIx 1) dst.view.dmaCredit iprop(Got d L dst fullShare A ∗ Got d L src q A)

/-- What the subcore owes, with some record of its waits. -/
def Owing (O : CellTallies nD τ sig (HIx 1)) : sProp 𝕄 := iprop(∃ W, owes (VT d L) O W)

/-- A region held outright at known contents is held at some contents. -/
theorem Got.blank {sp : Space} {s : Shape} {e : EltTy} (m : Memref sig .scVector sp s e) (A : Vec F s e) :
    (Got d L m fullShare A : sProp 𝕄) ⊢ Blank (F := F) d L m := by
  unfold Got Blank
  iintro ⟨%f, %_, H⟩
  iexists f; iexact H

/-- A copy is started. -/
theorem wp_issue {sp sp' : Space} {s : Shape} {e : EltTy} (src : Memref sig .scVector sp s e) (dst : Memref sig .scVector sp' s e)
    (sem : DmaSem sig) (hsrc : src.view.WordExact) (hdst : dst.view.WordExact)
    (hsem : DmaTarget.Typed (nD := nD) sp (.dma sem) (p := Proc.scVector (cV L) (jV L)) (.here dst)) (hs : 0 < s.numel)
    (q : PosShare TreeShare) (A : Vec F s e) {α : Type} {k : PUnit → Prog (E F L) α} {Q : α → sProp 𝕄} :
    (iprop(Got d L src q A ∗ Blank (F := F) d L dst ∗ semVal (VT d L, .dma sem) 0) : sProp 𝕄)
      ⊢ iprop((Flew d L src dst sem q A -∗ wp frame (wpE (defs₀ (F := F)) 𝒱₀ (VT d L) none) Set.univ (k ⟨⟩) Q)
          -∗ wp frame (wpE (defs₀ (F := F)) 𝒱₀ (VT d L) none) Set.univ (Prog.lift (.enqueueDma src (.here dst) (.dma sem) hsrc hdst hsem) >>= k) Q) := by
  unfold Got Blank
  iintro ⟨⟨%f, %hf, Hs⟩, ⟨%g, Hd⟩, Hv⟩ Hk
  rw [show (Prog.lift (.enqueueDma src (.here dst) (.dma sem) hsrc hdst hsem) >>= k : Prog (E F L) α)
    = .op (.enqueueDma src (.here dst) (.dma sem) hsrc hdst hsem) k from rfl]
  iapply (Transfers.wp_dmaLocal (EC (F := F)) 𝒱₀ (VT d L) none (default : HIx 1) dst.view.dmaCredit rfl
    (View.dmaCredit_pos _ hs) (Finset.Subset.refl _)) $$ [Hs Hd Hv]
  · isplitl [Hs]; · iexact Hs
    isplitl [Hd]; · iexact Hd
    iexact Hv
  iintro HF
  iapply Hk
  unfold Flew
  iapply (Transfers.Flight_mono (EC (F := F)) (VT d L) ?_) $$ HF
  unfold Got
  iintro ⟨Hd, Hs⟩
  isplitl [Hd]
  · iexists _
    isplitr; rotate_left; · iexact Hd
    ipureintro
    rw [View.read_write_univ, ← hf]
  · iexists f
    isplitr; · ipureintro; exact hf
    iexact Hs

/-- A copy is waited for. -/
theorem wp_await {sp sp' : Space} {s : Shape} {e : EltTy} (src : Memref sig .scVector sp s e) (dst : Memref sig .scVector sp' s e)
    (sem : DmaSem sig) (hsrc : src.view.WordExact) (hdst : dst.view.WordExact)
    (q : PosShare TreeShare) (A : Vec F s e) (O : CellTallies nD τ sig (HIx 1)) {α : Type} {k : PUnit → Prog (E F L) α} {Q : α → sProp 𝕄} :
    (iprop(Transfers.MayWaits (VT d L) (default : HIx 1) O ∗ Flew d L src dst sem q A ∗ Owing (F := F) d L O) : sProp 𝕄)
      ⊢ iprop((iprop(Got d L dst fullShare A ∗ Got d L src q A ∗ semVal (VT d L, .dma sem) 0 ∗ Owing (F := F) d L O)
            -∗ wp frame (wpE (defs₀ (F := F)) 𝒱₀ (VT d L) none) Set.univ (k ⟨⟩) Q)
          -∗ wp frame (wpE (defs₀ (F := F)) 𝒱₀ (VT d L) none) Set.univ (Prog.lift (.waitDma2 sem src dst hsrc hdst) >>= k) Q) := by
  unfold Flew Owing
  iintro ⟨Hmw, HF, ⟨%W, HO⟩⟩ Hk
  rw [show (Prog.lift (.waitDma2 sem src dst hsrc hdst) >>= k : Prog (E F L) α) = .op (.waitDma2 sem src dst hsrc hdst) k from rfl]
  iapply (Transfers.wp_waitLocalO (EC (F := F)) 𝒱₀ (VT d L) none (default : HIx 1) rfl) $$ [HF HO Hmw]
  · isplitl [HF]; · iexact HF
    isplitl [HO]; · iexact HO
    iapply (Transfers.MayWaits.elim (.dma sem)); iexact Hmw
  iintro ⟨⟨Hd, Hs⟩, Hv, HO⟩
  iapply Hk
  isplitl [Hd]; · iexact Hd
  isplitl [Hs]; · iexact Hs
  isplitl [Hv]; · iexact Hv
  iexists _; iexact HO

end

end Cert.Proof.Hot

end
-- ==== Proof.Tile.lean ====
/-
  The run of one vector subcore: its index words in, its nine pieces of the output out.
-/
module

public import proofs.«01_k».proof.Proof.Copy
public import Idealize.ShloMosaic.Lib.SparseCore.Ops

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (L : grid0.Coords)

/-- A part of a buffer that is a rectangle of it, taken out to be given back. -/
theorem Got.part {sp : Space} {s : Shape} {e : EltTy} (b : Memref sig .scVector sp s e) (r : Rect s) (hr : ∀ a, r.stride a = 1) (A : Vec F s e) :
    (Got d L b fullShare A : sProp 𝕄)
      ⊢ iprop(Got d L (b.slice r hr) fullShare (fun j => A (r.emb j)) ∗ (Blank (F := F) d L (b.slice r hr) -∗ Blank (F := F) d L b)) := by
  have hsub : (b.slice r hr).view.set ⊆ b.view.set := View.set_slice_subset _ _
  unfold Got Blank
  iintro ⟨%f, %hf, H⟩
  ihave H' := (pointsTo_split_subset hsub).1 $$ H
  icases H' with ⟨Hi, Ho⟩
  isplitl [Hi]
  · iexists f
    isplitr; rotate_left; · iexact Hi
    ipureintro
    rw [← hf]
    funext j
    rw [View.read_apply, View.read_apply]; rfl
  · iintro ⟨%g, Hg⟩
    iexists _
    iapply (pointsTo_join_subset hsub)
    isplitl [Hg]; · iexact Hg
    iexact Ho

variable (b : Memref sig .scVector .vmem S15x4x8x128 .f32) (x : Memref sig .scVector .vmem S512 .i32)

/-- A chunk over a buffer of zeros, ahead of the rest. -/
theorem wp_fill (lo hi st : Nat) (X : Vec F S512 .i32) (hlo : lo = 8 * st) (hw : hi ≤ lo + 120) (hlo' : lo ≤ 1000) (hhi : hi ≤ 1000)
    {α : Type} {k : BitVec 32 → Prog (E F L) α} {Q : α → sProp 𝕄} :
    (iprop(Got d L x fullShare X ∗ Got d L b fullShare (ind (F := F) fun _ => False)) : sProp 𝕄)
      ⊢ iprop((∀ v, iprop(Got d L x fullShare X ∗ Got d L b fullShare (ind (F := F) (Hot X st hi)))
            -∗ wp frame (wpE (defs₀ (F := F)) 𝒱₀ (VT d L) none) Set.univ (k v) Q)
          -∗ wp frame (wpE (defs₀ (F := F)) 𝒱₀ (VT d L) none) Set.univ
              (chunk (fun k u => group1 (i := L) x b k u (BitVec.ofNat 32 lo) (BitVec.ofNat 32 hi) (BitVec.ofNat 32 st)) >>= k) Q) := by
  rw [wp_bind]
  iintro H Hk
  iapply (wp_wand_r Idealize.ShloMosaic.frame (wpE (defs₀ (F := F)) 𝒱₀ (VT d L) none) Set.univ)
  isplitl [H]
  · iapply (wp_chunk d L b x _ X (Hot X st hi) (fun _ => False) (fun k u => group1_spec d L b x k u lo hi st X hlo hw hlo' hhi))
    iexact H
  iintro %v H
  iapply Hk
  iexact H

/-- A chunk over an older chunk's marks, ahead of the rest. -/
theorem wp_refill (zlo zhi zst lo hi st : Nat) (X : Vec F S512 .i32)
    (hzlo : zlo = 8 * zst) (hzw : zhi ≤ zlo + 120) (hzlo' : zlo ≤ 1000) (hzhi : zhi ≤ 1000)
    (hlo : lo = 8 * st) (hw : hi ≤ lo + 120) (hlo' : lo ≤ 1000) (hhi : hi ≤ 1000)
    {α : Type} {k : BitVec 32 → Prog (E F L) α} {Q : α → sProp 𝕄} :
    (iprop(Got d L x fullShare X ∗ Got d L b fullShare (ind (F := F) (Hot X zst zhi))) : sProp 𝕄)
      ⊢ iprop((∀ v, iprop(Got d L x fullShare X ∗ Got d L b fullShare (ind (F := F) (Hot X st hi)))
            -∗ wp frame (wpE (defs₀ (F := F)) 𝒱₀ (VT d L) none) Set.univ (k v) Q)
          -∗ wp frame (wpE (defs₀ (F := F)) 𝒱₀ (VT d L) none) Set.univ
              (chunk (fun k u => group2 (i := L) x b k u (BitVec.ofNat 32 zlo) (BitVec.ofNat 32 zhi) (BitVec.ofNat 32 zst)
                (BitVec.ofNat 32 lo) (BitVec.ofNat 32 hi) (BitVec.ofNat 32 st)) >>= k) Q) := by
  rw [wp_bind]
  iintro H Hk
  iapply (wp_wand_r Idealize.ShloMosaic.frame (wpE (defs₀ (F := F)) 𝒱₀ (VT d L) none) Set.univ)
  isplitl [H]
  · iapply (wp_chunk d L b x _ X (Hot X st hi) (Hot X zst zhi)
      (fun k u => group2_spec d L b x k u zlo zhi zst lo hi st X hzlo hzw hzlo' hzhi hlo hw hlo' hhi))
    iexact H
  iintro %v H
  iapply Hk
  iexact H

variable (arg2 : Memref sig .scVector .hbm S16384 .i32) (arg3 : Memref sig .scVector .hbm S15x4x8x128 .f32) (harg3 : arg3.IsWhole) (arg4 : Memref sig .scVector .hbm S125x128x8x128 .f32)
  (harg5 : x.IsWhole) (hb : b.IsWhole) (arg7 : Memref sig .scVector .vmem S15x4x8x128 .f32) (harg7 : arg7.IsWhole) (arg8 : DmaSems sig S_) (arg9 : DmaSems sig S_) (arg10 : DmaSems sig S_) (arg11 : DmaSems sig S_) (v66_r0 : DmaSems sig S_)
  (O : CellTallies nD τ sig (HIx 1))

/-- A whole buffer has elements. -/
theorem numel_chunk : 0 < S15x4x8x128.numel := by decide
/-- The last chunk's part of a buffer has elements. -/
theorem numel_last : 0 < S5x4x8x128.numel := by decide
/-- The words' buffer has elements. -/
theorem numel_words : 0 < S512.numel := by decide

/-- A later chunk: the older copy of its buffer has landed, its own is under way. -/
theorem wp_step (sem : DmaSems sig S_) (zoff : Fin 4 → Nat) (hz : ∀ a, zoff a + S15x4x8x128.size a ≤ S125x128x8x128.size a)
    (off : Fin 4 → Nat) (h : ∀ a, off a + S15x4x8x128.size a ≤ S125x128x8x128.size a) (zlo zhi zst lo hi st : Nat) (X : Vec F S512 .i32)
    (hzlo : zlo = 8 * zst) (hzw : zhi ≤ zlo + 120) (hzlo' : zlo ≤ 1000) (hzhi : zhi ≤ 1000)
    (hlo : lo = 8 * st) (hw : hi ≤ lo + 120) (hlo' : lo ≤ 1000) (hhi : hi ≤ 1000)
    {α : Type} {k : PUnit → Prog (E F L) α} {Q : α → sProp 𝕄} :
    (iprop(Transfers.MayWaits (VT d L) (default : HIx 1) O ∗ Got d L x fullShare X
        ∗ Flew d L b (outAt arg4 zoff hz) sem.sem fullShare (ind (F := F) (Hot X zst zhi))
        ∗ Blank (F := F) d L (outAt arg4 off h) ∗ Owing (F := F) d L O) : sProp 𝕄)
      ⊢ iprop((iprop(Got d L x fullShare X ∗ Flew d L b (outAt arg4 off h) sem.sem fullShare (ind (F := F) (Hot X st hi)) ∗ Owing (F := F) d L O
              ∗ Got d L (outAt arg4 zoff hz) fullShare (ind (F := F) (Hot X zst zhi)))
            -∗ wp frame (wpE (defs₀ (F := F)) 𝒱₀ (VT d L) none) Set.univ (k ⟨⟩) Q)
          -∗ wp frame (wpE (defs₀ (F := F)) 𝒱₀ (VT d L) none) Set.univ
              (step L arg4 x b hb sem zoff hz off h (BitVec.ofNat 32 zlo) (BitVec.ofNat 32 zhi) (BitVec.ofNat 32 zst)
                (BitVec.ofNat 32 lo) (BitVec.ofNat 32 hi) (BitVec.ofNat 32 st) >>= k) Q) := by
  iintro ⟨Hmw, HX, HF, HB, HO⟩ Hk
  simp only [step, bind_assoc]
  iapply (wp_await d L b (outAt arg4 zoff hz) sem.sem _ _ fullShare (ind (F := F) (Hot X zst zhi)) O) $$ [Hmw HF HO]
  · isplitl [Hmw]; · iexact Hmw
    isplitl [HF]; · iexact HF
    iexact HO
  iintro ⟨Hz, Hb, Hv, HO⟩
  iapply (wp_refill d L b x zlo zhi zst lo hi st X hzlo hzw hzlo' hzhi hlo hw hlo' hhi) $$ [HX Hb]
  · isplitl [HX]; · iexact HX
    iexact Hb
  iintro %v ⟨HX, Hb⟩
  iapply (wp_issue d L b (outAt arg4 off h) sem.sem _ _ _ numel_chunk fullShare (ind (F := F) (Hot X st hi))) $$ [Hb HB Hv]
  · isplitl [Hb]; · iexact Hb
    isplitl [HB]; · iexact HB
    iexact Hv
  iintro HF
  iapply Hk
  isplitl [HX]; · iexact HX
  isplitl [HF]; · iexact HF
  isplitl [HO]; · iexact HO
  iexact Hz

/-- The row of index words a subcore reads. -/
abbrev rowOf : Memref sig .scVector .hbm S512 .i32 :=
  arg2.slice (Rect.unit (s := S16384) (k0_off1 L) S512.size (k0_off1_inb L)) (fun _ => rfl)

/-- The words come in and the first two chunks go out. -/
theorem wp_start (q q0 q1 : PosShare TreeShare) (X : Vec F S512 .i32)
    {α : Type} {k : (Σ' (v4 : IVec S16 32) (v5 : FVec F S16 .f32) (v6 : FVec F S16 .f32), IVec S16 32) → Prog (E F L) α} {Q : α → sProp 𝕄} :
    (iprop(Transfers.MayWaits (VT d L) (default : HIx 1) O
        ∗ Got d L (rowOf L arg2) q X ∗ Got d L arg3 q0 (ind (F := F) fun _ => False) ∗ Got d L arg3 q1 (ind (F := F) fun _ => False)
        ∗ (Blank (F := F) d L x ∗ Blank (F := F) d L b ∗ Blank (F := F) d L arg7)
        ∗ (Blank (F := F) d L (outAt arg4 (k0_off10 L) (k0_off10_inb L)) ∗ Blank (F := F) d L (outAt arg4 (k0_off19 L) (k0_off19_inb L)))
        ∗ (semVal (VT d L, .dma arg8.sem) 0 ∗ semVal (VT d L, .dma arg9.sem) 0 ∗ semVal (VT d L, .dma arg10.sem) 0
            ∗ semVal (VT d L, .dma arg11.sem) 0 ∗ semVal (VT d L, .dma v66_r0.sem) 0)
        ∗ Owing (F := F) d L O) : sProp 𝕄)
      ⊢ iprop((∀ v, iprop(Got d L x fullShare X ∗ Flew d L b (outAt arg4 (k0_off10 L) (k0_off10_inb L)) arg10.sem fullShare (ind (F := F) (Hot X 0 120))
              ∗ Flew d L arg7 (outAt arg4 (k0_off19 L) (k0_off19_inb L)) arg11.sem fullShare (ind (F := F) (Hot X 15 240))
              ∗ Owing (F := F) d L O
              ∗ Got d L (rowOf L arg2) q X ∗ Got d L arg3 q0 (ind (F := F) fun _ => False) ∗ Got d L arg3 q1 (ind (F := F) fun _ => False)
              ∗ semVal (VT d L, .dma arg8.sem) 0 ∗ semVal (VT d L, .dma arg9.sem) 0 ∗ semVal (VT d L, .dma v66_r0.sem) 0)
            -∗ wp frame (wpE (defs₀ (F := F)) 𝒱₀ (VT d L) none) Set.univ (k v) Q)
          -∗ wp frame (wpE (defs₀ (F := F)) 𝒱₀ (VT d L) none) Set.univ
              (start L arg2 arg3 harg3 arg4 x harg5 b hb arg7 harg7 arg8 arg9 arg10 arg11 v66_r0 >>= k) Q) := by
  iintro ⟨#Hmw, HR, HZ0, HZ1, ⟨Hx, Hb, Hc⟩, ⟨HB0, HB1⟩, ⟨H8, H9, H10, H11, Hr⟩, HO⟩ Hk
  simp only [start, bind_assoc, pure_bind]
  iapply (wp_issue d L (rowOf L arg2) x v66_r0.sem _ _ _ numel_words q X) $$ [HR Hx Hr]
  · isplitl [HR]; · iexact HR
    isplitl [Hx]; · iexact Hx
    iexact Hr
  iintro HF
  iapply (wp_await d L (rowOf L arg2) x v66_r0.sem _ _ q X O) $$ [HF HO]
  · isplitr; · iexact Hmw
    isplitl [HF]; · iexact HF
    iexact HO
  iintro ⟨HX, HR, Hr, HO⟩
  iapply (wp_issue d L arg3 b arg8.sem _ _ _ numel_chunk q0 (ind (F := F) fun _ => False)) $$ [HZ0 Hb H8]
  · isplitl [HZ0]; · iexact HZ0
    isplitl [Hb]; · iexact Hb
    iexact H8
  iintro HF6
  iapply (wp_issue d L arg3 arg7 arg9.sem _ _ _ numel_chunk q1 (ind (F := F) fun _ => False)) $$ [HZ1 Hc H9]
  · isplitl [HZ1]; · iexact HZ1
    isplitl [Hc]; · iexact Hc
    iexact H9
  iintro HF7
  iapply (wp_await d L arg3 b arg8.sem _ _ q0 (ind (F := F) fun _ => False) O) $$ [HF6 HO]
  · isplitr; · iexact Hmw
    isplitl [HF6]; · iexact HF6
    iexact HO
  iintro ⟨Hb, HZ0, H8, HO⟩
  iapply (wp_fill d L b x 0 120 0 X rfl (by decide) (by decide) (by decide)) $$ [HX Hb]
  · isplitl [HX]; · iexact HX
    iexact Hb
  iintro %_ ⟨HX, Hb⟩
  iapply (wp_issue d L b (outAt arg4 (k0_off10 L) (k0_off10_inb L)) arg10.sem _ _ _ numel_chunk fullShare (ind (F := F) (Hot X 0 120))) $$ [Hb HB0 H10]
  · isplitl [Hb]; · iexact Hb
    isplitl [HB0]; · iexact HB0
    iexact H10
  iintro HF6
  iapply (wp_await d L arg3 arg7 arg9.sem _ _ q1 (ind (F := F) fun _ => False) O) $$ [HF7 HO]
  · isplitr; · iexact Hmw
    isplitl [HF7]; · iexact HF7
    iexact HO
  iintro ⟨Hc, HZ1, H9, HO⟩
  iapply (wp_fill d L arg7 x 120 240 15 X rfl (by decide) (by decide) (by decide)) $$ [HX Hc]
  · isplitl [HX]; · iexact HX
    iexact Hc
  iintro %_ ⟨HX, Hc⟩
  iapply (wp_issue d L arg7 (outAt arg4 (k0_off19 L) (k0_off19_inb L)) arg11.sem _ _ _ numel_chunk fullShare (ind (F := F) (Hot X 15 240))) $$ [Hc HB1 H11]
  · isplitl [Hc]; · iexact Hc
    isplitl [HB1]; · iexact HB1
    iexact H11
  iintro HF7
  iapply Hk
  isplitl [HX]; · iexact HX
  isplitl [HF6]; · iexact HF6
  isplitl [HF7]; · iexact HF7
  isplitl [HO]; · iexact HO
  isplitl [HR]; · iexact HR
  isplitl [HZ0]; · iexact HZ0
  isplitl [HZ1]; · iexact HZ1
  isplitl [H8]; · iexact H8
  isplitl [H9]; · iexact H9
  iexact Hr

/-- What the last chunk's copy reads: the first five of the buffer's fifteen. -/
abbrev lastInd (X : Vec F S512 .i32) : FVec F S5x4x8x128 .f32 := fun j =>
  ind (F := F) (Hot X 120 1000) ((Rect.unit (s := S15x4x8x128) ![0, 0, 0, 0] S5x4x8x128.size inb_S15x4x8x128_S5x4x8x128_0_0_0_0).emb j)

/-- The last chunk, and the waits for what is still under way. -/
theorem wp_finish (X : Vec F S512 .i32) :
    (iprop(Transfers.MayWaits (VT d L) (default : HIx 1) O ∗ Got d L x fullShare X
        ∗ Flew d L b (outAt arg4 (k0_off64 L) (k0_off64_inb L)) arg10.sem fullShare (ind (F := F) (Hot X 90 840))
        ∗ Flew d L arg7 (outAt arg4 (k0_off73 L) (k0_off73_inb L)) arg11.sem fullShare (ind (F := F) (Hot X 105 960))
        ∗ Blank (F := F) d L (lastDst L arg4) ∗ Owing (F := F) d L O) : sProp 𝕄)
      ⊢ wp frame (wpE (defs₀ (F := F)) 𝒱₀ (VT d L) none) Set.univ (finish L arg4 x b hb arg7 harg7 arg10 arg11)
          fun _ => iprop(Got d L x fullShare X ∗ Owing (F := F) d L O
            ∗ Got d L (outAt arg4 (k0_off64 L) (k0_off64_inb L)) fullShare (ind (F := F) (Hot X 90 840))
            ∗ Got d L (outAt arg4 (k0_off73 L) (k0_off73_inb L)) fullShare (ind (F := F) (Hot X 105 960))
            ∗ Got d L (lastDst L arg4) fullShare (lastInd X)
            ∗ Blank (F := F) d L b ∗ Blank (F := F) d L arg7
            ∗ semVal (VT d L, .dma arg10.sem) 0 ∗ semVal (VT d L, .dma arg11.sem) 0) := by
  iintro ⟨#Hmw, HX, HF6, HF7, HB, HO⟩
  simp only [finish]
  iapply (wp_await d L b (outAt arg4 (k0_off64 L) (k0_off64_inb L)) arg10.sem _ _ fullShare (ind (F := F) (Hot X 90 840)) O) $$ [HF6 HO]
  · isplitr; · iexact Hmw
    isplitl [HF6]; · iexact HF6
    iexact HO
  iintro ⟨HG6, Hb, H10, HO⟩
  iapply (wp_refill d L b x 720 840 90 960 1000 120 X rfl (by decide) (by decide) (by decide) rfl (by decide) (by decide) (by decide)) $$ [HX Hb]
  · isplitl [HX]; · iexact HX
    iexact Hb
  iintro %_ ⟨HX, Hb⟩
  ihave Hb' := (Got.part d L b (Rect.unit (s := S15x4x8x128) ![0, 0, 0, 0] S5x4x8x128.size inb_S15x4x8x128_S5x4x8x128_0_0_0_0) (fun _ => rfl)
    (ind (F := F) (Hot X 120 1000))) $$ Hb
  icases Hb' with ⟨Hb, Hback⟩
  iapply (wp_issue d L (lastSrc b) (lastDst L arg4) arg10.sem _ _ _ numel_last fullShare (lastInd X)) $$ [Hb HB H10]
  · isplitl [Hb]; · iexact Hb
    isplitl [HB]; · iexact HB
    iexact H10
  iintro HF6
  iapply (wp_await d L arg7 (outAt arg4 (k0_off73 L) (k0_off73_inb L)) arg11.sem _ _ fullShare (ind (F := F) (Hot X 105 960)) O) $$ [HF7 HO]
  · isplitr; · iexact Hmw
    isplitl [HF7]; · iexact HF7
    iexact HO
  iintro ⟨HG7, Hc, H11, HO⟩
  rw [← bind_pure (Prog.lift (.waitDma2 arg10.sem (lastSrc b) (lastDst L arg4) (View.wordExact_bits rfl) (View.wordExact_bits rfl)) : Prog (E F L) PUnit)]
  iapply (wp_await d L (lastSrc b) (lastDst L arg4) arg10.sem _ _ fullShare (lastInd X) O) $$ [HF6 HO]
  · isplitr; · iexact Hmw
    isplitl [HF6]; · iexact HF6
    iexact HO
  iintro ⟨HG8, Hb, H10, HO⟩
  rw [wp_pure]
  imodintro
  isplitl [HX]; · iexact HX
  isplitl [HO]; · iexact HO
  isplitl [HG6]; · iexact HG6
  isplitl [HG7]; · iexact HG7
  isplitl [HG8]; · iexact HG8
  isplitl [Hb Hback]
  · iapply Hback
    iapply (Got.blank d L (lastSrc b) (lastInd X)); iexact Hb
  isplitl [Hc]; · iapply (Got.blank d L arg7 _); iexact Hc
  isplitl [H10]; · iexact H10
  iexact H11

/-- The nine pieces of the output a subcore writes, held at any contents. -/
def Pieces : sProp 𝕄 :=
  iprop(Blank (F := F) d L (outAt arg4 (k0_off10 L) (k0_off10_inb L))
    ∗ Blank (F := F) d L (outAt arg4 (k0_off19 L) (k0_off19_inb L))
    ∗ Blank (F := F) d L (outAt arg4 (k0_off28 L) (k0_off28_inb L))
    ∗ Blank (F := F) d L (outAt arg4 (k0_off37 L) (k0_off37_inb L))
    ∗ Blank (F := F) d L (outAt arg4 (k0_off46 L) (k0_off46_inb L))
    ∗ Blank (F := F) d L (outAt arg4 (k0_off55 L) (k0_off55_inb L))
    ∗ Blank (F := F) d L (outAt arg4 (k0_off64 L) (k0_off64_inb L))
    ∗ Blank (F := F) d L (outAt arg4 (k0_off73 L) (k0_off73_inb L))
    ∗ Blank (F := F) d L (lastDst L arg4))

/-- The nine pieces written: each the marks of its chunk. -/
def Written (X : Vec F S512 .i32) : sProp 𝕄 :=
  iprop(Got d L (outAt arg4 (k0_off10 L) (k0_off10_inb L)) fullShare (ind (F := F) (Hot X 0 120))
    ∗ Got d L (outAt arg4 (k0_off19 L) (k0_off19_inb L)) fullShare (ind (F := F) (Hot X 15 240))
    ∗ Got d L (outAt arg4 (k0_off28 L) (k0_off28_inb L)) fullShare (ind (F := F) (Hot X 30 360))
    ∗ Got d L (outAt arg4 (k0_off37 L) (k0_off37_inb L)) fullShare (ind (F := F) (Hot X 45 480))
    ∗ Got d L (outAt arg4 (k0_off46 L) (k0_off46_inb L)) fullShare (ind (F := F) (Hot X 60 600))
    ∗ Got d L (outAt arg4 (k0_off55 L) (k0_off55_inb L)) fullShare (ind (F := F) (Hot X 75 720))
    ∗ Got d L (outAt arg4 (k0_off64 L) (k0_off64_inb L)) fullShare (ind (F := F) (Hot X 90 840))
    ∗ Got d L (outAt arg4 (k0_off73 L) (k0_off73_inb L)) fullShare (ind (F := F) (Hot X 105 960))
    ∗ Got d L (lastDst L arg4) fullShare (lastInd X))

/-- The five counters at zero. -/
def Zeroed : sProp 𝕄 :=
  iprop(semVal (VT d L, .dma arg8.sem) 0 ∗ semVal (VT d L, .dma arg9.sem) 0 ∗ semVal (VT d L, .dma arg10.sem) 0
    ∗ semVal (VT d L, .dma arg11.sem) 0 ∗ semVal (VT d L, .dma v66_r0.sem) 0)

/-- The whole run of a subcore. -/
theorem wp_body (q q0 q1 : PosShare TreeShare) (X : Vec F S512 .i32) :
    (iprop(Transfers.MayWaits (VT d L) (default : HIx 1) O
        ∗ Got d L (rowOf L arg2) q X ∗ Got d L arg3 q0 (ind (F := F) fun _ => False) ∗ Got d L arg3 q1 (ind (F := F) fun _ => False)
        ∗ (Blank (F := F) d L x ∗ Blank (F := F) d L b ∗ Blank (F := F) d L arg7)
        ∗ Pieces (F := F) d L arg4 ∗ Zeroed (F := F) d L arg8 arg9 arg10 arg11 v66_r0 ∗ Owing (F := F) d L O) : sProp 𝕄)
      ⊢ wp frame (wpE (defs₀ (F := F)) 𝒱₀ (VT d L) none) Set.univ
          (body L arg2 arg3 harg3 arg4 x harg5 b hb arg7 harg7 arg8 arg9 arg10 arg11 v66_r0)
          fun _ => iprop(Written d L arg4 X ∗ (Blank (F := F) d L x ∗ Blank (F := F) d L b ∗ Blank (F := F) d L arg7)
            ∗ Zeroed (F := F) d L arg8 arg9 arg10 arg11 v66_r0 ∗ Owing (F := F) d L O) := by
  unfold Pieces Written Zeroed body
  iintro ⟨#Hmw, HR, HZ0, HZ1, HS, ⟨B0, B1, B2, B3, B4, B5, B6, B7, B8⟩, HV, HO⟩
  iapply (wp_start d L b x arg2 arg3 harg3 arg4 harg5 hb arg7 harg7 arg8 arg9 arg10 arg11 v66_r0 O q q0 q1 X) $$ [HR HZ0 HZ1 HS B0 B1 HV HO]
  · isplitr; · iexact Hmw
    isplitl [HR]; · iexact HR
    isplitl [HZ0]; · iexact HZ0
    isplitl [HZ1]; · iexact HZ1
    isplitl [HS]; · iexact HS
    isplitl [B0 B1]
    · isplitl [B0]; · iexact B0
      iexact B1
    isplitl [HV]; · iexact HV
    iexact HO
  iintro %_ ⟨HX, HF6, HF7, HO, -, -, -, H8, H9, Hr⟩
  iapply (wp_step d L b x arg4 hb O arg10 (k0_off10 L) (k0_off10_inb L) (k0_off28 L) (k0_off28_inb L) 0 120 0 240 360 30 X
    rfl (by decide) (by decide) (by decide) rfl (by decide) (by decide) (by decide)) $$ [HX HF6 B2 HO]
  · isplitr; · iexact Hmw
    isplitl [HX]; · iexact HX
    isplitl [HF6]; · iexact HF6
    isplitl [B2]; · iexact B2
    iexact HO
  iintro ⟨HX, HF6, HO, G0⟩
  iapply (wp_step d L arg7 x arg4 harg7 O arg11 (k0_off19 L) (k0_off19_inb L) (k0_off37 L) (k0_off37_inb L) 120 240 15 360 480 45 X
    rfl (by decide) (by decide) (by decide) rfl (by decide) (by decide) (by decide)) $$ [HX HF7 B3 HO]
  · isplitr; · iexact Hmw
    isplitl [HX]; · iexact HX
    isplitl [HF7]; · iexact HF7
    isplitl [B3]; · iexact B3
    iexact HO
  iintro ⟨HX, HF7, HO, G1⟩
  iapply (wp_step d L b x arg4 hb O arg10 (k0_off28 L) (k0_off28_inb L) (k0_off46 L) (k0_off46_inb L) 240 360 30 480 600 60 X
    rfl (by decide) (by decide) (by decide) rfl (by decide) (by decide) (by decide)) $$ [HX HF6 B4 HO]
  · isplitr; · iexact Hmw
    isplitl [HX]; · iexact HX
    isplitl [HF6]; · iexact HF6
    isplitl [B4]; · iexact B4
    iexact HO
  iintro ⟨HX, HF6, HO, G2⟩
  iapply (wp_step d L arg7 x arg4 harg7 O arg11 (k0_off37 L) (k0_off37_inb L) (k0_off55 L) (k0_off55_inb L) 360 480 45 600 720 75 X
    rfl (by decide) (by decide) (by decide) rfl (by decide) (by decide) (by decide)) $$ [HX HF7 B5 HO]
  · isplitr; · iexact Hmw
    isplitl [HX]; · iexact HX
    isplitl [HF7]; · iexact HF7
    isplitl [B5]; · iexact B5
    iexact HO
  iintro ⟨HX, HF7, HO, G3⟩
  iapply (wp_step d L b x arg4 hb O arg10 (k0_off46 L) (k0_off46_inb L) (k0_off64 L) (k0_off64_inb L) 480 600 60 720 840 90 X
    rfl (by decide) (by decide) (by decide) rfl (by decide) (by decide) (by decide)) $$ [HX HF6 B6 HO]
  · isplitr; · iexact Hmw
    isplitl [HX]; · iexact HX
    isplitl [HF6]; · iexact HF6
    isplitl [B6]; · iexact B6
    iexact HO
  iintro ⟨HX, HF6, HO, G4⟩
  iapply (wp_step d L arg7 x arg4 harg7 O arg11 (k0_off55 L) (k0_off55_inb L) (k0_off73 L) (k0_off73_inb L) 600 720 75 840 960 105 X
    rfl (by decide) (by decide) (by decide) rfl (by decide) (by decide) (by decide)) $$ [HX HF7 B7 HO]
  · isplitr; · iexact Hmw
    isplitl [HX]; · iexact HX
    isplitl [HF7]; · iexact HF7
    isplitl [B7]; · iexact B7
    iexact HO
  iintro ⟨HX, HF7, HO, G5⟩
  iapply (wp_wand_r Idealize.ShloMosaic.frame (wpE (defs₀ (F := F)) 𝒱₀ (VT d L) none) Set.univ)
  isplitl [HX HF6 HF7 B8 HO]
  · iapply (wp_finish d L b x arg4 hb arg7 harg7 arg10 arg11 O X)
    isplitr; · iexact Hmw
    isplitl [HX]; · iexact HX
    isplitl [HF6]; · iexact HF6
    isplitl [HF7]; · iexact HF7
    isplitl [B8]; · iexact B8
    iexact HO
  iintro %_ ⟨HX, HO, G6, G7, G8, Hb, Hc, H10, H11⟩
  isplitl [G0 G1 G2 G3 G4 G5 G6 G7 G8]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  isplitl [HX Hb Hc]
  · isplitl [HX]; · iapply (Got.blank d L x X); iexact HX
    isplitl [Hb]; · iexact Hb
    iexact Hc
  isplitl [H8 H9 H10 H11 Hr]
  · isplitl [H8]; · iexact H8
    isplitl [H9]; · iexact H9
    isplitl [H10]; · iexact H10
    isplitl [H11]; · iexact H11
    iexact Hr
  iexact HO

end

end Cert.Proof.Hot

end
-- ==== Proof.Pieces.lean ====
/-
  The chip's arrays cut for the tiles: the nine pieces of the output each tile writes, its row of index words, the
  shares every tile reads at.
-/
module

public import proofs.«01_k».proof.Proof.Tile

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Names -/

/-- The index words, the zeros and the output as the TensorCore names them. -/
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

/-- The same arrays as a vector subcore names them. -/
abbrev aV : Memref sig .scVector .hbm S16384 .i32 := Memref.whole main_v0_scv
abbrev zV : Memref sig .scVector .hbm S15x4x8x128 .f32 := Memref.whole main_v1_scv
abbrev oV : Memref sig .scVector .hbm S125x128x8x128 .f32 := Memref.whole main_v2_scv

/-- The tile's number. -/
def wid (L : grid0.Coords) : Nat := (L 0).val * 16 + (L 1).val

/-- Index word number `r`. -/
abbrev wordIx (r : Nat) (h : r < 16384) : S16384.Idx := fun a => ⟨r, by rw [Fin.eq_zero a]; exact h⟩

/-- The row an output position stands for is one of the 16384. -/
theorem word_lt (x : S125x128x8x128.Idx) : (x 1).val * 128 + (x 3).val < 16384 := by
  have h1 : (x 1).val < 128 := (x 1).isLt
  have h3 : (x 3).val < 128 := (x 3).isLt
  omega

/-- What the output holds at the end: at a position, one where the position's row has the position's class, zero elsewhere. -/
def marks (I : Vec F S16384 .i32) : FVec F S125x128x8x128 .f32 := fun x =>
  if (I (wordIx ((x 1).val * 128 + (x 3).val) (word_lt x))).toNat = 8 * (x 0).val + (x 2).val then Scalar.ofBits .f32 0x3F800000#32
  else Scalar.ofBits .f32 0x00000000#32

/-! ## The pieces of the output -/

/-- Piece `k` of tile `w`. -/
def pc (w k : Nat) : Finset S125x128x8x128.Idx := Finset.univ.filter fun x => (x 1).val / 4 = w ∧ (x 0).val / 15 = k

/-- A position is in piece `k` of tile `w` when its row group is one of the tile's four and its column group one of the piece's fifteen. -/
theorem mem_pc {w k : Nat} {x : S125x128x8x128.Idx} : x ∈ pc w k ↔ (x 1).val / 4 = w ∧ (x 0).val / 15 = k := by
  simp [pc]

/-- The pieces by core, tile and number. -/
abbrev pcs (p : (Fin 2 × Fin 16) × Fin 9) : Finset S125x128x8x128.Idx := pc (p.1.1.val * 16 + p.1.2.val) p.2.val

/-- Different pieces share no position. -/
theorem pcs_disjoint : ∀ p ∈ (Finset.univ : Finset ((Fin 2 × Fin 16) × Fin 9)), ∀ p' ∈ (Finset.univ : Finset ((Fin 2 × Fin 16) × Fin 9)),
    p ≠ p' → Disjoint (pcs p) (pcs p') := by
  rintro ⟨⟨c, i⟩, k⟩ - ⟨⟨c', i'⟩, k'⟩ - hne
  rw [Finset.disjoint_left]
  intro x hx hx'
  obtain ⟨h1, h2⟩ := mem_pc.mp hx
  obtain ⟨h1', h2'⟩ := mem_pc.mp hx'
  refine hne ?_
  have e : c = c' := Fin.ext (by dsimp only at h1 h1'; omega)
  have e' : i = i' := Fin.ext (by dsimp only at h1 h1'; omega)
  have e'' : k = k' := Fin.ext (by dsimp only at h2 h2'; omega)
  rw [e, e', e'']

/-- Every position is in some piece. -/
theorem pcs_cover : (Finset.univ : Finset ((Fin 2 × Fin 16) × Fin 9)).biUnion pcs = Finset.univ := by
  refine Finset.eq_univ_of_forall fun x => Finset.mem_biUnion.mpr ?_
  have h0 : (x 0).val < 125 := (x 0).isLt
  have h1 : (x 1).val < 128 := (x 1).isLt
  refine ⟨((⟨(x 1).val / 64, by omega⟩, ⟨(x 1).val / 4 % 16, by omega⟩), ⟨(x 0).val / 15, by omega⟩), Finset.mem_univ _, ?_⟩
  refine mem_pc.mpr ⟨?_, rfl⟩
  show (x 1).val / 4 = (x 1).val / 64 * 16 + (x 1).val / 4 % 16
  omega

/-- The output whole is its pieces. -/
theorem out_pieces (d : Dev nD) (f : Buf (Elt F) (v2Loc d)) :
    (v2Loc d ↦{fullShare} f : sProp 𝕄)
      = bigSep Finset.univ fun c : Fin 2 => bigSep Finset.univ fun i : Fin 16 => bigSep Finset.univ fun k : Fin 9 =>
          v2Loc d ↦[pc (c.val * 16 + i.val) k.val]{fullShare} f := by
  have h : (v2Loc d ↦{fullShare} f : sProp 𝕄) = bigSep Finset.univ fun p : (Fin 2 × Fin 16) × Fin 9 => v2Loc d ↦[pcs p]{fullShare} f := by
    rw [← pointsTo_biUnion Finset.univ (ℓ := v2Loc d) pcs pcs_disjoint, pcs_cover]; try rfl
  rw [h, BI.bigSep_univ_prod, BI.bigSep_univ_prod]

section

variable (d : Dev nD) (L : grid0.Coords)

/-- A block of the output at `[15 k, 4 w, 0, 0]`, `15` deep, is piece `k` of tile `w`. -/
theorem set_block (k n : Nat) (hn : 15 * k + n = min (15 * k + 15) 125) (off sz : Fin 4 → Nat) (h : ∀ a, off a + sz a ≤ S125x128x8x128.size a)
    (h0 : off 0 = 15 * k) (h1 : off 1 = 4 * wid L) (h2 : off 2 = 0) (h3 : off 3 = 0)
    (s0 : sz 0 = n) (s1 : sz 1 = 4) (s2 : sz 2 = 8) (s3 : sz 3 = 128) :
    (oV.slice (Rect.unit (s := S125x128x8x128) off sz h) (fun _ => rfl)).view.set = pc (wid L) k := by
  show ((View.whole (main_v2_scv : Ref sig .scVector)).slice (Rect.unit (s := S125x128x8x128) off sz h)).set = _
  rw [View.set_slice]
  refine Finset.map_refl.trans ?_
  ext x
  rw [Rect.mem_set_unit, mem_pc]
  have hx0 : (x 0).val < 125 := (x 0).isLt
  have hx1 : (x 1).val < 128 := (x 1).isLt
  have hx2 : (x 2).val < 8 := (x 2).isLt
  have hx3 : (x 3).val < 128 := (x 3).isLt
  constructor
  · intro H
    obtain ⟨a0, b0⟩ := H 0
    obtain ⟨a1, b1⟩ := H 1
    rw [h0] at a0 b0; rw [s0] at b0
    rw [h1] at a1 b1; rw [s1] at b1
    omega
  · rintro ⟨e1, e0⟩ a
    match a with
    | 0 => rw [h0, s0]; omega
    | 1 => rw [h1, s1]; omega
    | 2 => rw [h2, s2]; omega
    | 3 => rw [h3, s3]; omega

/-- The words a tile reads: its 512 of the 16384. -/
abbrev wordsOf (I : Vec F S16384 .i32) : Vec F S512 .i32 := (rowOf L aV).view.read (Elt F) I

/-- A tile's word number `r` is word `512 w + r` of the whole. -/
theorem wordsOf_apply (I : Vec F S16384 .i32) (r : Nat) (h : r < 512) (h' : 512 * wid L + r < 16384) :
    wordsOf L I (rowIx r h) = I (wordIx (512 * wid L + r) h') := by
  refine (View.read_apply _ _).trans ((cast_eq _ _).trans (congrArg I ?_))
  funext a
  apply Fin.ext
  rw [Fin.eq_zero a]
  show k0_off1 L 0 + 1 * r = 512 * wid L + r
  rw [k0_off1_eq]
  show 8192 * (L 0).val + 512 * (L 1).val + 1 * r = 512 * wid L + r
  unfold wid; omega

/-- There are 32 tiles. -/
theorem wid_lt : wid L < 32 := by
  have h0 : (L 0).val < 2 := (L 0).isLt
  have h1 : (L 1).val < 16 := (L 1).isLt
  unfold wid; omega

/-- At a position of the buffer and the position of the output it goes to, the chunk's mark is the output's. -/
theorem marks_at (I : Vec F S16384 .i32) (st hi : Nat) (j : S15x4x8x128.Idx) (x : S125x128x8x128.Idx)
    (hst : 8 * (st + (j 0).val) + 8 ≤ hi)
    (e0 : (x 0).val = st + (j 0).val) (e1 : (x 1).val = 4 * wid L + (j 1).val) (e2 : (x 2).val = (j 2).val) (e3 : (x 3).val = (j 3).val) :
    marks I x = ind (F := F) (Hot (wordsOf L I) st hi) j := by
  have h2 : (j 2).val < 8 := (j 2).isLt
  have hw := wid_lt L
  have hr := row_lt j
  unfold marks ind
  refine ite_iff ?_
  have e : wordsOf L I (rowIx (row j) hr) = I (wordIx ((x 1).val * 128 + (x 3).val) (word_lt x)) := by
    rw [wordsOf_apply L I (row j) hr (by omega)]
    congr 1; funext a; apply Fin.ext
    show 512 * wid L + row j = (x 1).val * 128 + (x 3).val
    unfold row; omega
  unfold Hot
  rw [e, e0, e2]
  constructor
  · intro h; exact ⟨h, by rw [h]; omega⟩
  · exact fun h => h.1

/-- A piece that reads as `g` does holds what `g` holds. -/
theorem Got.settle {sp : Space} {s : Shape} {e : EltTy} (m : Memref sig .scVector sp s e) (q : PosShare TreeShare) (A : Vec F s e)
    (g : Buf (Elt F) (m.view.loc (VT d L))) (hg : m.view.read (Elt F) g = A) :
    (Got d L m q A : sProp 𝕄) ⊢ m.view.loc (VT d L) ↦[m.view.set]{q} g := by
  unfold Got
  iintro ⟨%f, %hf, H⟩
  have hc : (m.view.loc (VT d L) ↦[m.view.set]{q} f : sProp 𝕄) = m.view.loc (VT d L) ↦[m.view.set]{q} g := by
    refine pointsTo_congr fun i hi => ?_
    obtain ⟨x, -, rfl⟩ := Finset.mem_map.mp hi
    have h := congrFun (hf.trans hg.symm) x
    rw [View.read_apply, View.read_apply] at h
    have h' := congrArg (_root_.cast (congrArg (Elt F) m.view.elt_eq.symm)) h
    rwa [cast_cast, cast_cast, cast_eq, cast_eq] at h'
  rw [← hc]
  iexact H

/-- A full-depth piece reads the chunk's marks off the output's. -/
theorem read_out (I : Vec F S16384 .i32) (k : Nat) (off : Fin 4 → Nat) (h : ∀ a, off a + S15x4x8x128.size a ≤ S125x128x8x128.size a)
    (h0 : off 0 = 15 * k) (h1 : off 1 = 4 * wid L) (h2 : off 2 = 0) (h3 : off 3 = 0) :
    (outAt oV off h).view.read (Elt F) (marks I) = ind (F := F) (Hot (wordsOf L I) (15 * k) (120 * k + 120)) := by
  funext j
  have hj0 : (j 0).val < 15 := (j 0).isLt
  refine (View.read_apply _ _).trans ((cast_eq _ _).trans (marks_at L I _ _ j _ (by omega) ?_ ?_ ?_ ?_))
  · show off 0 + 1 * (j 0).val = _; rw [h0]; omega
  · show off 1 + 1 * (j 1).val = _; rw [h1]; omega
  · show off 2 + 1 * (j 2).val = _; rw [h2]; omega
  · show off 3 + 1 * (j 3).val = _; rw [h3]; omega

/-- The last piece reads the last chunk's. -/
theorem read_last (I : Vec F S16384 .i32) : (lastDst L oV).view.read (Elt F) (marks I) = lastInd (wordsOf L I) := by
  funext j
  have hj0 : (j 0).val < 5 := (j 0).isLt
  refine (View.read_apply _ _).trans ((cast_eq _ _).trans
    (marks_at L I _ _ ((Rect.unit (s := S15x4x8x128) ![0, 0, 0, 0] S5x4x8x128.size inb_S15x4x8x128_S5x4x8x128_0_0_0_0).emb j) _ ?_ ?_ ?_ ?_ ?_))
  · show 8 * (120 + (0 + 1 * (j 0).val)) + 8 ≤ 1000; omega
  · show k0_off82 L 0 + 1 * (j 0).val = 120 + (0 + 1 * (j 0).val); rw [k0_off82_eq]; show 120 + _ = _; omega
  · show k0_off82 L 1 + 1 * (j 1).val = 4 * wid L + (0 + 1 * (j 1).val); rw [k0_off82_eq]
    show 64 * (L 0).val + 4 * (L 1).val + 1 * (j 1).val = 4 * ((L 0).val * 16 + (L 1).val) + (0 + 1 * (j 1).val); omega
  · show k0_off82 L 2 + 1 * (j 2).val = 0 + 1 * (j 2).val; rw [k0_off82_eq]; rfl
  · show k0_off82 L 3 + 1 * (j 3).val = 0 + 1 * (j 3).val; rw [k0_off82_eq]; rfl

end

end Cert.Proof.Hot

end
-- ==== Proof.Launch.lean ====
/-
  The launch: what each tile is handed and hands back, the call, the program on the TensorCore, and its run.
-/
module

public import proofs.«01_k».proof.Proof.Pieces
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.StableHlo (held)

local notation "𝕄" => MT nD τ sig (HIx 1) (Elt F) ℕ UU ℕ

/-- The call runs on sixteen tiles of each core. -/
theorem nSub_zero : (K (F := F)).nSub 0 = 16 := rfl

/-- What the launch asks of the configuration: its handshakes' counters are distinct and live outside the tasks, and a core's buffers are shared by no task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the ghost state. -/
abbrev EHs : Emb UH (MT nD τ sig (HIx 1) (Elt F) ℕ UU ℕ) := embL

variable (m : (ℓ : Loc nD τ sig) → Buf (Elt F) ℓ) (ρ : Dev nD → PrngReg)

/-! ## The arrays before and after the call -/

/-- The five operations around the call. -/
abbrev opWords : HloOp τ sig (Elt F) := StableHlo.reshape main_arg1 main_v0 (rfl : (.i32 : EltTy) = .i32) shapeCasts_S16384x1_S16384
abbrev opZero : HloOp τ sig (Elt F) := StableHlo.nullary main_cst (constant S_ .f32 0x00000000#32)
abbrev opZeros : HloOp τ sig (Elt F) := StableHlo.unary main_cst main_v1 (broadcastInDim S15x4x8x128 ![] bcast_S_S15x4x8x128 : (⟨S_, .f32⟩ : BufTy).Contents (Elt F) → (⟨S15x4x8x128, .f32⟩ : BufTy).Contents (Elt F))
abbrev opTurn : HloOp τ sig (Elt F) := StableHlo.unary main_v2 main_v3 ((transpose S128x128x125x8 [1, 3, 0, 2] · transposes_S125x128x8x128_S128x128x125x8_1_3_0_2) : (⟨S125x128x8x128, .f32⟩ : BufTy).Contents (Elt F) → (⟨S128x128x125x8, .f32⟩ : BufTy).Contents (Elt F))
abbrev opFlat : HloOp τ sig (Elt F) := StableHlo.reshape main_v3 main_v4 (rfl : (.f32 : EltTy) = .f32) shapeCasts_S128x128x125x8_S16384x1000

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The arrays at the launch; at the call; the words, the zeros and the output's contents the call finds. -/
def V0 (d : Dev nD) : Valuation τ sig (Elt F) := fun b => m (d, b)
def V3 (d : Dev nD) : Valuation τ sig (Elt F) := (opZeros (F := F)).result ((opZero (F := F)).result ((opWords (F := F)).result (V0 m d)))
def Iw (d : Dev nD) : Vec F S16384 .i32 := V3 m d v0'
def Zw (d : Dev nD) : FVec F S15x4x8x128 .f32 := V3 m d v1'
def Ow (d : Dev nD) : FVec F S125x128x8x128 .f32 := V3 m d v2'
/-- The arrays after the call, and at the end. -/
def V4 (d : Dev nD) : Valuation τ sig (Elt F) := Function.update (V3 m d) v2' (marks (Iw m d))
def V6 (d : Dev nD) : Valuation τ sig (Elt F) := (opFlat (F := F)).result ((opTurn (F := F)).result (V4 m d))

/-- The zeros are zeros. -/
theorem Zw_read (d : Dev nD) : zV.view.read (Elt F) (Zw m d) = ind fun _ => False := by
  have h : Zw m d = broadcastInDim S15x4x8x128 ![] bcast_S_S15x4x8x128 (constant S_ .f32 0x00000000#32) := by
    unfold Zw V3
    refine (StableHlo.unary_result ..).trans ?_
    congr 1
  funext j
  refine (View.read_apply _ _).trans ((cast_eq _ _).trans ?_)
  rw [h]
  unfold ind
  exact Eq.trans rfl (if_neg not_false).symm

/-! ## What the handshakes carry -/

/-- The share a tile reads the words and the zeros at. -/
abbrev tok (c i : Nat) : PosShare TreeShare := Transfers.shareTokN (Transfers.shareTokN fullShare c) i

/-- What tile `i` of core `c` is handed: a share of the words and of the zeros, its pieces of the output. -/
abbrev goP (d : Dev nD) (c i : Nat) : sProp 𝕄 :=
  iprop((v0Loc d ↦{tok c i} Iw m d) ∗ (v1Loc d ↦{tok c i} Zw m d)
    ∗ bigSep Finset.univ fun k : Fin 9 => v2Loc d ↦[pc (c * 16 + i) k.val]{fullShare} Ow m d)
/-- What it hands back: its pieces, marked. -/
abbrev tdP (d : Dev nD) (c i : Nat) : sProp 𝕄 :=
  bigSep Finset.univ fun k : Fin 9 => v2Loc d ↦[pc (c * 16 + i) k.val]{fullShare} marks (Iw m d)

/-- The call takes and hands back, core by core, what its sixteen tiles do. -/
def P : (K (F := F)).Pay (nD := nD) (Val := Elt F) (Name := ℕ) (U := UU) where
  st := fun q d c => match q with | 0 => bigSep Finset.univ fun i : Fin 16 => goP m d c.val i.val
  dn := fun q d c => match q with | 0 => bigSep Finset.univ fun i : Fin 16 => tdP m d c.val i.val
  go := fun q d c i => match q with | 0 => goP m d c.val i.val
  td := fun q d c i => match q with | 0 => tdP m d c.val i.val
  x := fun _ _ => iprop(emp)

instance P_storable : (P (F := F) m).IsStorable where
  st q d c := match q with
    | 0 => (inferInstance : BI.Storable (upEmb : UEmb _ 𝕄) (bigSep Finset.univ fun i : Fin 16 => goP m d c.val i.val))
  dn q d c := match q with
    | 0 => (inferInstance : BI.Storable (upEmb : UEmb _ 𝕄) (bigSep Finset.univ fun i : Fin 16 => tdP m d c.val i.val))
  go q d c i := match q with
    | 0 => (inferInstance : BI.Storable (upEmb : UEmb _ 𝕄) (goP m d c.val i.val))
  td q d c i := match q with
    | 0 => (inferInstance : BI.Storable (upEmb : UEmb _ 𝕄) (tdP m d c.val i.val))

/-! ## One tile -/

section

variable (d : Dev nD) (L : grid0.Coords)

/-- Where piece `k` of the tile sits. -/
theorem off_at {off : Fin 4 → Nat} {k : Nat} (e : off = ![15 * k, 64 * (L 0).val + 4 * (L 1).val, 0, 0]) :
    off 0 = 15 * k ∧ off 1 = 4 * wid L ∧ off 2 = 0 ∧ off 3 = 0 := by
  subst e
  refine ⟨rfl, ?_, rfl, rfl⟩
  show 64 * (L 0).val + 4 * (L 1).val = 4 * ((L 0).val * 16 + (L 1).val)
  omega

/-- Holding the target of the copy of chunk `k` is holding piece `k` of the tile. -/
theorem out_pts (k : Nat) (hk : k < 8) {off : Fin 4 → Nat} (h : ∀ a, off a + S15x4x8x128.size a ≤ S125x128x8x128.size a)
    (e : off = ![15 * k, 64 * (L 0).val + 4 * (L 1).val, 0, 0]) (f : Buf (Elt F) (v2Loc d)) :
    ((outAt oV off h).view.loc (VT d L) ↦[(outAt oV off h).view.set]{fullShare} f : sProp 𝕄) = v2Loc d ↦[pc (wid L) k]{fullShare} f := by
  obtain ⟨h0, h1, h2, h3⟩ := off_at L e
  rw [show (outAt oV off h).view.set = pc (wid L) k from set_block L k 15 (by omega) off _ h h0 h1 h2 h3 rfl rfl rfl rfl]

/-- Holding the target of the last, shorter, copy is holding piece 8 of the tile. -/
theorem last_pts (f : Buf (Elt F) (v2Loc d)) :
    ((lastDst L oV).view.loc (VT d L) ↦[(lastDst L oV).view.set]{fullShare} f : sProp 𝕄) = v2Loc d ↦[pc (wid L) 8]{fullShare} f := by
  obtain ⟨h0, h1, h2, h3⟩ := off_at (k := 8) L (k0_off82_eq L)
  rw [show (lastDst L oV).view.set = pc (wid L) 8 from set_block L 8 5 (by decide) _ _ (k0_off82_inb L) h0 h1 h2 h3 rfl rfl rfl rfl]

/-- A piece as the chunk's copy names it, before the copy; -/
theorem piece_in (k : Nat) (hk : k < 8) {off : Fin 4 → Nat} (h : ∀ a, off a + S15x4x8x128.size a ≤ S125x128x8x128.size a)
    (e : off = ![15 * k, 64 * (L 0).val + 4 * (L 1).val, 0, 0]) (f : Buf (Elt F) (v2Loc d)) :
    (v2Loc d ↦[pc (wid L) k]{fullShare} f : sProp 𝕄) ⊢ Blank (F := F) d L (outAt oV off h) := by
  unfold Blank
  rw [← out_pts d L k hk h e f]
  iintro H; iexists f; iexact H
/-- and after it. -/
theorem piece_out (k : Nat) (hk : k < 8) {off : Fin 4 → Nat} (h : ∀ a, off a + S15x4x8x128.size a ≤ S125x128x8x128.size a)
    (e : off = ![15 * k, 64 * (L 0).val + 4 * (L 1).val, 0, 0]) (I : Vec F S16384 .i32) :
    (Got d L (outAt oV off h) fullShare (ind (F := F) (Hot (wordsOf L I) (15 * k) (120 * k + 120))) : sProp 𝕄)
      ⊢ v2Loc d ↦[pc (wid L) k]{fullShare} marks I := by
  obtain ⟨h0, h1, h2, h3⟩ := off_at L e
  rw [← out_pts d L k hk h e (marks I)]
  exact Got.settle d L (outAt oV off h) fullShare _ (marks I) (read_out L I k off h h0 h1 h2 h3)

/-- A family over nine, written out. -/
theorem nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The tile's pieces as its copies name them, before the copies; -/
theorem pieces_in (f : Buf (Elt F) (v2Loc d)) :
    (bigSep Finset.univ fun k : Fin 9 => (v2Loc d ↦[pc (wid L) k.val]{fullShare} f : sProp 𝕄)) ⊢ Pieces (F := F) d L oV := by
  rw [nine]
  unfold Pieces
  refine BI.sep_mono (piece_in d L 0 (by decide) _ (k0_off10_eq L) f) (BI.sep_mono (piece_in d L 1 (by decide) _ (k0_off19_eq L) f)
    (BI.sep_mono (piece_in d L 2 (by decide) _ (k0_off28_eq L) f) (BI.sep_mono (piece_in d L 3 (by decide) _ (k0_off37_eq L) f)
    (BI.sep_mono (piece_in d L 4 (by decide) _ (k0_off46_eq L) f) (BI.sep_mono (piece_in d L 5 (by decide) _ (k0_off55_eq L) f)
    (BI.sep_mono (piece_in d L 6 (by decide) _ (k0_off64_eq L) f) (BI.sep_mono (piece_in d L 7 (by decide) _ (k0_off73_eq L) f) ?_)))))))
  show (v2Loc d ↦[pc (wid L) 8]{fullShare} f : sProp 𝕄) ⊢ _
  rw [← last_pts d L f]
  unfold Blank
  iintro H; iexists f; iexact H

/-- and after them. -/
theorem pieces_out (I : Vec F S16384 .i32) :
    (Written d L oV (wordsOf L I) : sProp 𝕄) ⊢ bigSep Finset.univ fun k : Fin 9 => v2Loc d ↦[pc (wid L) k.val]{fullShare} marks I := by
  rw [nine]
  unfold Written
  refine BI.sep_mono (piece_out d L 0 (by decide) _ (k0_off10_eq L) I) (BI.sep_mono (piece_out d L 1 (by decide) _ (k0_off19_eq L) I)
    (BI.sep_mono (piece_out d L 2 (by decide) _ (k0_off28_eq L) I) (BI.sep_mono (piece_out d L 3 (by decide) _ (k0_off37_eq L) I)
    (BI.sep_mono (piece_out d L 4 (by decide) _ (k0_off46_eq L) I) (BI.sep_mono (piece_out d L 5 (by decide) _ (k0_off55_eq L) I)
    (BI.sep_mono (piece_out d L 6 (by decide) _ (k0_off64_eq L) I) (BI.sep_mono (piece_out d L 7 (by decide) _ (k0_off73_eq L) I) ?_)))))))
  show _ ⊢ (v2Loc d ↦[pc (wid L) 8]{fullShare} marks I : sProp 𝕄)
  rw [← last_pts d L (marks I)]
  exact Got.settle d L (lastDst L oV) fullShare _ (marks I) (read_last L I)

/-- Contents that read `A` are the view got at `A`. -/
theorem Got.intro {sp : Space} {s : Shape} {e : EltTy} (r : Memref sig .scVector sp s e) (q : PosShare TreeShare) (A : Vec F s e)
    (f : Buf (Elt F) (r.view.loc (VT d L))) (h : r.view.read (Elt F) f = A) :
    (r.view.loc (VT d L) ↦[r.view.set]{q} f : sProp 𝕄) ⊢ Got d L r q A := by
  unfold Got
  iintro H; iexists f
  isplitr; · ipureintro; exact h
  iexact H

/-- A share of the words gives the tile's row of them. -/
theorem words_in (q : PosShare TreeShare) (I : Buf (Elt F) (v0Loc d)) :
    (v0Loc d ↦{q} I : sProp 𝕄) ⊢ Got d L (rowOf L aV) q (wordsOf L I) := by
  refine (pointsTo_split_subset (ℓ := v0Loc d) (I := (rowOf L aV).view.set) (Finset.subset_univ _)).1.trans ?_
  exact sep_elim_left.trans (Got.intro d L (rowOf L aV) q _ I rfl)

/-- A share of an array is what stays and two smaller shares. -/
theorem two_toks (ℓ : Loc nD τ sig) (q : PosShare TreeShare) (f : Buf (Elt F) ℓ) :
    (ℓ ↦{q} f : sProp 𝕄) ⊢ iprop((ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h.1.trans sep_elim_right

/-- A share of the zeros gives two. -/
theorem zeros_in (q : PosShare TreeShare) (f : Buf (Elt F) (v1Loc d)) (hf : zV.view.read (Elt F) f = ind fun _ => False) :
    (v1Loc d ↦{q} f : sProp 𝕄) ⊢ iprop(Got d L zV (Transfers.shareTokN q 0) (ind (F := F) fun _ => False)
      ∗ Got d L zV (Transfers.shareTokN q 1) (ind (F := F) fun _ => False)) := by
  have hg (p : PosShare TreeShare) : (v1Loc d ↦{p} f : sProp 𝕄) ⊢ Got d L zV p (ind (F := F) fun _ => False) := by
    refine (Entails.of_eq ?_).trans (Got.intro d L zV p _ f hf)
    rw [View.set_whole]
  exact (two_toks (v1Loc d) q f).trans (BI.sep_mono (hg _) (hg _))

end

end Cert.Proof.Hot

end
-- ==== Proof.Run.lean ====
/-
  One tile's task, the call, the program on the TensorCore, and the run of the whole program.
-/
module

public import proofs.«01_k».proof.Proof.Launch

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.StableHlo (held)

local notation "𝕄" => MT nD τ sig (HIx 1) (Elt F) ℕ UU ℕ

variable (m : (ℓ : Loc nD τ sig) → Buf (Elt F) ℓ) (ρ : Dev nD → PrngReg)

/-! ## One tile's task -/

section

variable (d : Dev nD) (L : grid0.Coords)

/-- A tile's buffers: the words', the two of fifteen blocks. -/
abbrev xV : Memref sig .scVector .vmem S512 .i32 := Memref.whole cc0_scratch0
abbrev bV : Memref sig .scVector .vmem S15x4x8x128 .f32 := Memref.whole cc0_scratch1
abbrev eV : Memref sig .scVector .vmem S15x4x8x128 .f32 := Memref.whole cc0_scratch2

/-- The five counters of copies a tile names, as a family. -/
abbrev csem (k : Nat) (hk : k < 5 := by decide) : DmaSem sig := ⟨k, hk⟩
abbrev dcell (d : Dev nD) (c : Fin τ.nSC) (i : Fin τ.nSub) (k : Fin 5) : GSem nD τ sig := (V d c i, .dma (csem k.val k.isLt))

/-- Each of the five counters is one of the tile's own. -/
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

/-- The tile's own counters at zero: the five it names and the rest. -/
theorem ownSems0_V :
    (ownSems0 (VT d L) : sProp 𝕄)
      = iprop(Zeroed (F := F) d L cc0_scratch3 cc0_scratch4 cc0_scratch5 cc0_scratch6 cc0_scoped0
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's own buffers: the three it names, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => absurd (Proc.devRef_injective _ e) h
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

/-- A tile's buffer whole, at any contents, in either spelling. -/
theorem blank_x : (Blank (F := F) d L xV : sProp 𝕄) = iprop(∃ f, (VT d L).loc cc0_scratch0 ↦{fullShare} f) := by
  unfold Blank; rw [View.set_whole]
/-- The same of the first buffer of fifteen blocks. -/
theorem blank_b : (Blank (F := F) d L bV : sProp 𝕄) = iprop(∃ f, (VT d L).loc cc0_scratch1 ↦{fullShare} f) := by
  unfold Blank; rw [View.set_whole]
/-- The same of the second buffer of fifteen blocks. -/
theorem blank_e : (Blank (F := F) d L eV : sProp 𝕄) = iprop(∃ f, (VT d L).loc cc0_scratch2 ↦{fullShare} f) := by
  unfold Blank; rw [View.set_whole]

/-- The task of a tile: from its shares and its pieces, its pieces marked. -/
theorem tile_body (O : CellTallies nD τ sig (HIx 1)) (W : Waits sig (HIx 1)) (hO : ∀ g, O g none = 0) :
    iprop(levAts (K (F := F)).L (K (F := F)).lev ∗ emp ∗ goP m d (L 0).val (L 1).val
        ∗ scopedBufs (VT d L) ∗ scopedSems0 (VT d L) ∗ owes (VT d L) O W)
      ⊢ wp frame (wpE (defs₀ (F := F)) 𝒱₀ (VT d L) none) Set.univ
          (cc0_body L aV (Memref.isWhole_whole _) zV (Memref.isWhole_whole _) oV (Memref.isWhole_whole _)
            xV (Memref.isWhole_whole _) bV (Memref.isWhole_whole _) eV (Memref.isWhole_whole _)
            cc0_scratch3 cc0_scratch4 cc0_scratch5 cc0_scratch6 cc0_scoped0)
          fun _ => iprop(tdP m d (L 0).val (L 1).val ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V,
    body_eq, ← blank_x, ← blank_b, ← blank_e]
  unfold goP tdP
  rw [show (L 0).val * 16 + (L 1).val = wid L from rfl]
  iintro ⟨#Hlv, -, ⟨Hi, Hz, Ho⟩, ⟨Hx, Hb, He, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (words_in d L (tok (L 0).val (L 1).val) (Iw m d)) $$ Hi
  ihave Hz' := (zeros_in d L (tok (L 0).val (L 1).val) (Zw m d) (Zw_read m d)) $$ Hz
  icases Hz' with ⟨Hz0, Hz1⟩
  ihave Ho' := (pieces_in d L (Ow m d)) $$ Ho
  iapply (wp_wand_r Idealize.ShloMosaic.frame (wpE (defs₀ (F := F)) 𝒱₀ (VT d L) none) Set.univ)
  isplitl [Hi' Hz0 Hz1 Ho' Hx Hb He HC HO]
  · iapply (wp_body d L bV xV aV zV (Memref.isWhole_whole _) oV (Memref.isWhole_whole _) (Memref.isWhole_whole _) eV (Memref.isWhole_whole _)
      cc0_scratch3 cc0_scratch4 cc0_scratch5 cc0_scratch6 cc0_scoped0 O _ _ _ (wordsOf L (Iw m d)))
    isplitr; · iexact Hmw
    isplitl [Hi']; · iexact Hi'
    isplitl [Hz0]; · iexact Hz0
    isplitl [Hz1]; · iexact Hz1
    isplitl [Hx Hb He]
    · isplitl [Hx]; · iexact Hx
      isplitl [Hb]; · iexact Hb
      iexact He
    isplitl [Ho']; · iexact Ho'
    isplitl [HC]; · iexact HC
    unfold Owing; iexists W; iexact HO
  iintro %_ ⟨Ho, ⟨Hx, Hb, He⟩, HC, HO⟩
  isplitl [Ho]
  · iapply (pieces_out d L (Iw m d)); iexact Ho
  isplitl [Hx Hb He Hbufs]
  · isplitl [Hx]; · iexact Hx
    isplitl [Hb]; · iexact Hb
    isplitl [He]; · iexact He
    iexact Hbufs
  isplitl [HC Hsems]
  · isplitl [HC]; · iexact HC
    iexact Hsems
  unfold Owing
  icases HO with ⟨%W', HO⟩
  iexists W'; isplitr
  · ipureintro; intro p _
    rcases p.2 with _ | q
    · exact .inr (.inl rfl)
    · exact .inr (.inr (congrArg some (Subsingleton.elim q 0)))
  · iexact HO

/-! ## The obligations of the call -/

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the kernel's body at the tile's coordinates. -/
theorem defs₀_vector (c : Fin τ.nSC) (s : Fin τ.nSub) :
    defs₀ (F := F) (.scVector c s) 0 ()
      = SparseCore.onTile hcore0 hsub0 (fun c s => cc0_body (coordsV c s)
          aV (Memref.isWhole_whole _) zV (Memref.isWhole_whole _) oV (Memref.isWhole_whole _)
          xV (Memref.isWhole_whole _) bV (Memref.isWhole_whole _) eV (Memref.isWhole_whole _)
          cc0_scratch3 cc0_scratch4 cc0_scratch5 cc0_scratch6 cc0_scoped0) ⟨⟩ c s := rfl

/-- Every tile's task. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

end

/-- A core's part of the call is its tiles'. -/
theorem vecSplit : (K (F := F)).VecSplit' (P m) 0 := by
  intro d c
  show (bigSep Finset.univ fun i : Fin 16 => goP m d c.val i.val) ⊢ |={Set.univ}=> iprop(
      (bigSep Finset.univ fun i : Fin 16 => goP m d c.val i.val)
      ∗ ((bigSep Finset.univ fun i : Fin 16 => tdP m d c.val i.val) -∗ (bigSep Finset.univ fun i : Fin 16 => tdP m d c.val i.val)))
  iintro H; imodintro
  isplitl [H]; · iexact H
  iintro H; iexact H

end Cert.Proof.Hot

end
-- ==== Proof.Main.lean ====
/-
  The program on the TensorCore around the call, and the run of all the threads: where it ends and what the arrays
  then hold.
-/
module

public import proofs.«01_k».proof.Proof.Run

@[expose] public section

noncomputable section

namespace Cert.Proof.Hot

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.StableHlo (held)

local notation "𝕄" => MT nD τ sig (HIx 1) (Elt F) ℕ UU ℕ

variable (m : (ℓ : Loc nD τ sig) → Buf (Elt F) ℓ) (ρ : Dev nD → PrngReg)

/-! ## The call's arrays dealt out and gathered -/

/-- An array whole, dealt in shares to the cores and their tiles. -/
theorem shares_in (ℓ : Loc nD τ sig) (f : Buf (Elt F) ℓ) :
    (ℓ ↦{fullShare} f : sProp 𝕄) ⊢ bigSep Finset.univ fun c : Fin 2 => bigSep Finset.univ fun i : Fin 16 => ℓ ↦{tok c.val i.val} f :=
  (Transfers.pointsTo_toks_split fullShare 2).trans (sep_elim_right.trans
    (bigSep_mono fun c _ => (Transfers.pointsTo_toks_split (Transfers.shareTokN fullShare c.val) 16).trans sep_elim_right))

/-- The three arrays at the call are what the tiles are handed. -/
theorem call_in (d : Dev nD) :
    (iprop((v0Loc d ↦{fullShare} Iw m d) ∗ (v1Loc d ↦{fullShare} Zw m d) ∗ (v2Loc d ↦{fullShare} Ow m d)) : sProp 𝕄)
      ⊢ bigSep Finset.univ fun c : Fin 2 => bigSep Finset.univ fun i : Fin 16 => goP m d c.val i.val := by
  have e : (bigSep Finset.univ fun c : Fin 2 => bigSep Finset.univ fun i : Fin 16 => goP m d c.val i.val)
      = iprop((bigSep Finset.univ fun c : Fin 2 => bigSep Finset.univ fun i : Fin 16 => v0Loc d ↦{tok c.val i.val} Iw m d)
        ∗ (bigSep Finset.univ fun c : Fin 2 => bigSep Finset.univ fun i : Fin 16 => v1Loc d ↦{tok c.val i.val} Zw m d)
        ∗ (bigSep Finset.univ fun c : Fin 2 => bigSep Finset.univ fun i : Fin 16 => bigSep Finset.univ fun k : Fin 9 =>
            v2Loc d ↦[pc (c.val * 16 + i.val) k.val]{fullShare} Ow m d)) := by
    rw [← bigSep_sep', ← bigSep_sep']
    refine bigSep_congr fun c _ => ?_
    rw [← bigSep_sep', ← bigSep_sep']
  rw [e, out_pieces]
  exact BI.sep_mono (shares_in (v0Loc d) (Iw m d)) (BI.sep_mono (shares_in (v1Loc d) (Zw m d)) (BI.Entails.refl _))

/-- What the tiles hand back is the output, marked. -/
theorem call_out (d : Dev nD) :
    (bigSep Finset.univ fun c : Fin 2 => bigSep Finset.univ fun i : Fin 16 => tdP m d c.val i.val) = (v2Loc d ↦{fullShare} marks (Iw m d) : sProp 𝕄) :=
  (out_pieces d (marks (Iw m d))).symm

/-! ## The launch element of the ghost state -/

/-- The handshakes' start, and the copies' counters at nothing. -/
def u₀ : UU := (initOf (K (F := F)).hsCells (K (F := F)).hsToks, 1)

/-- Nothing, held many times, is nothing. -/
theorem bigSep_emp' {I : Type} (s : Finset I) : (bigSep s fun _ => iprop(emp)) = (iprop(emp) : sProp 𝕄) := bigSep_emp_const s

/-- The ghost state at the launch holds the handshakes' start, and every thread's share of it, which is nothing. -/
theorem hu₀ : (ownU (u₀ (F := F)) : sProp 𝕄)
    ⊢ |={Set.univ}=> iprop(BI.own (EHs (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's arrays -/

/-- All nine; those the call takes; those that matter at the end. -/
abbrev S9 : Finset (DevRef τ sig) := {a0', a1', a2', v0', cst', v1', v2', v3', v4'}
abbrev S3 : Finset (DevRef τ sig) := {v0', v1', v2'}
abbrev S6 : Finset (DevRef τ sig) := {a0', a1', a2', v2', v3', v4'}
abbrev S4 : Finset (DevRef τ sig) := {a0', a1', a2', v4'}

/-- The TensorCore's arrays at the launch are the nine, at their initial contents. -/
theorem unscoped_held (d : Dev nD) :
    (unscopedBufs d (fun b => m ((SparseCore.T d).loc b)) : sProp 𝕄) = held (SparseCore.T d) S9 (V0 m d) := by
  unfold unscopedBufs held S9
  rw [show (Finset.univ.filter fun b : Ref sig .tc => ¬ b.isScoped)
      = {main_arg0, main_arg1, main_arg2, main_v0, main_cst, main_v1, main_v2, main_v3, main_v4} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The call's three arrays, one by one. -/
theorem held_S3 (d : Dev nD) :
    (held (SparseCore.T d) S3 (V3 m d) : sProp 𝕄)
      = iprop((v0Loc d ↦{fullShare} Iw m d) ∗ (v1Loc d ↦{fullShare} Zw m d) ∗ (v2Loc d ↦{fullShare} Ow m d)) := by
  unfold held S3
  rw [SparseCore.bigSep_insert' (by decide), SparseCore.bigSep_insert' (by decide), bigSep_singleton]
  rfl

/-- The arrays after the call: the output marked, the others as they were. -/
theorem held_S6 (d : Dev nD) :
    (iprop((v2Loc d ↦{fullShare} marks (Iw m d)) ∗ held (SparseCore.T d) (S6 \ {v2'}) (V3 m d)) : sProp 𝕄)
      = held (SparseCore.T d) S6 (V4 m d) := by
  rw [StableHlo.held_sub_split (SparseCore.T d) (show ({v2'} : Finset (DevRef τ sig)) ⊆ S6 by decide) (V4 m d),
    StableHlo.held_congr (SparseCore.T d) (S := S6 \ {v2'}) (V := V4 m d) (V' := V3 m d) (fun b hb =>
      Function.update_of_ne (fun e => (Finset.mem_sdiff.mp hb).2 (Finset.mem_singleton.mpr e)) _ _)]
  congr 1
  unfold held
  rw [bigSep_singleton]
  show (v2Loc d ↦{fullShare} marks (Iw m d) : sProp 𝕄) = v2Loc d ↦{fullShare} V4 m d v2'
  rw [show V4 m d v2' = marks (Iw m d) from Function.update_self _ _ _]

/-! ## The program -/

/-- What the program leaves: the arguments and the result. -/
abbrev FIN (d : Dev nD) : sProp 𝕄 := held (SparseCore.T d) S4 (V6 m d)

/-- What the call starts from is what the tiles are handed. -/
theorem st0_eq (d : Dev nD) : (bigSep Finset.univ fun c : Fin ((K (F := F)).nCore 0) => (P m).st 0 d c)
    = bigSep Finset.univ fun c : Fin 2 => bigSep Finset.univ fun i : Fin 16 => goP m d c.val i.val := rfl
/-- What the call ends with is the output, marked. -/
theorem dn0_eq (d : Dev nD) : (bigSep Finset.univ fun c : Fin ((K (F := F)).nCore 0) => (P m).dn 0 d c)
    = (v2Loc d ↦{fullShare} marks (Iw m d) : sProp 𝕄) := call_out m d

/-- Flattening the words touches two of the nine arrays. -/
theorem hWords : (opWords (F := F)).bufs ⊆ S9 := show ({a1', v0'} : Finset (DevRef τ sig)) ⊆ S9 by decide
/-- The constant zero touches one of the nine arrays. -/
theorem hZero : (opZero (F := F)).bufs ⊆ S9 := show ({cst'} : Finset (DevRef τ sig)) ⊆ S9 by decide
/-- Spreading the zero touches two of the nine arrays. -/
theorem hZeros : (opZeros (F := F)).bufs ⊆ S9 := show ({cst', v1'} : Finset (DevRef τ sig)) ⊆ S9 by decide
/-- Turning the output touches two of the six arrays left. -/
theorem hTurn : (opTurn (F := F)).bufs ⊆ S6 := show ({v2', v3'} : Finset (DevRef τ sig)) ⊆ S6 by decide
/-- Laying it flat touches two of the six arrays left. -/
theorem hFlat : (opFlat (F := F)).bufs ⊆ S6 := show ({v3', v4'} : Finset (DevRef τ sig)) ⊆ S6 by decide

/-- At the call the arrays are the call's three and the rest. -/
theorem held_call (d : Dev nD) :
    (held (SparseCore.T d) S9 ((opZeros (F := F)).result ((opZero (F := F)).result ((opWords (F := F)).result (V0 m d)))) : sProp 𝕄)
      = iprop(((v0Loc d ↦{fullShare} Iw m d) ∗ (v1Loc d ↦{fullShare} Zw m d) ∗ (v2Loc d ↦{fullShare} Ow m d))
        ∗ held (SparseCore.T d) (S9 \ S3) (V3 m d)) := by
  rw [← held_S3]
  exact StableHlo.held_sub_split (SparseCore.T d) (show S3 ⊆ S9 by decide) (V3 m d)
/-- At the end they are those that matter and the rest. -/
theorem held_end (d : Dev nD) :
    (held (SparseCore.T d) S6 ((opFlat (F := F)).result ((opTurn (F := F)).result (V4 m d))) : sProp 𝕄)
      = iprop(held (SparseCore.T d) S4 (V6 m d) ∗ held (SparseCore.T d) (S6 \ S4) (V6 m d)) :=
  StableHlo.held_sub_split (SparseCore.T d) (show S4 ⊆ S6 by decide) (V6 m d)

/-- The program: three operations, the call, two operations. -/
theorem hmain (κ : GSem nD τ sig → ℕ) (d : Dev nD) :
    iprop((K (F := F)).ctx EHs (P m) κ ∗ (K (F := F)).tcSt EHs d 0 ∗ (K (F := F)).tcRes m ρ d ∗ emp)
      ⊢ wp frame (wpE ((K (F := F)).defs (D (F := F))) 𝒱 (SparseCore.T d) none) Set.univ (main d)
          fun _ => iprop((K (F := F)).tcSt EHs d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opWords) (S := S9) hWords (V := V0 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opZero) (S := S9) hZero) $$ [Hb Hheld]
  · isplitl [Hb]; · iexact Hb
    iexact Hheld
  iintro ⟨Hb, Hheld⟩
  rw [wp_ret]; imodintro
  iapply (StableHlo.wp_hlo_within 𝒱 (SparseCore.T d) none Set.univ (op := opZeros) (S := S9) hZeros) $$ [Hb Hheld]
  · isplitl [Hb]; · iexact Hb
    iexact Hheld
  iintro ⟨Hb, Hheld⟩
  rw [wp_ret]; imodintro
  ihave Hh := (Entails.of_eq (held_call m d)) $$ Hheld
  icases Hh with ⟨Hcall, Hrest⟩
  ihave Hcall := (call_in m d) $$ Hcall
  iapply ((K (F := F)).wp_run (D (F := F)) 𝒱 (EH := EHs) (P := P m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn := (Entails.of_eq (dn0_eq m d)) $$ Hdn
  ihave Hr := (Entails.of_eq (StableHlo.held_sub_split (SparseCore.T d) (show S6 \ {v2'} ⊆ S9 \ S3 by decide) (V3 m d))) $$ Hrest
  icases Hr with ⟨Hr, -⟩
  ihave Hheld := (Entails.of_eq (held_S6 m d)) $$ [Hdn Hr]
  · isplitl [Hdn]; · iexact Hdn
    iexact Hr
  iapply (StableHlo.wp_hlo_within 𝒱 (SparseCore.T d) none Set.univ (op := opTurn) (S := S6) hTurn (V := V4 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opFlat) (S := S6) hFlat) $$ [Hb Hheld]
  · isplitl [Hb]; · iexact Hb
    iexact Hheld
  iintro ⟨Hb, Hheld⟩
  ihave Hr := (Entails.of_eq (held_end m d)) $$ Hheld
  icases Hr with ⟨Hr, -⟩
  rw [wp_ret]; imodintro; imodintro
  isplitl [Hst]; · iexact Hst
  isplitl [Hr]; · iexact Hr
  isplitl [Hb] <;> iassumption

/-- What a final state then shows: the arguments' and the result's contents. -/
def fq (d : Dev nD) (s' : Phys nD τ sig (Elt F)) : Prop := ∀ b ∈ S4, s'.mem.mem ((d, b) : Loc nD τ sig) = V6 m d b

/-- The arrays held at the end are what the final state's memory holds. -/
theorem hfin (d : Dev nD) (s' : Phys nD τ sig (Elt F)) : iprop(FIN m d ∗ SI s') ⊢ (⌜fq m d s'⌝ : sProp 𝕄) := by
  unfold fq
  refine BIBase.Entails.trans ?_ Laws.pure_forall.2
  refine BIClass.forall_intro fun b => ?_
  by_cases hb : b ∈ S4
  · unfold FIN held
    iintro ⟨H, HSI⟩
    ihave H := (show (bigSep S4 fun b => (((d, b) : Loc nD τ sig) ↦{fullShare} V6 m d b : sProp 𝕄)) ⊢ ((d, b) : Loc nD τ sig) ↦{fullShare} V6 m d b
      from bigSep_elim hb) $$ H
    ihave H := (SI_pointsTo_agree (st := s') (ℓ := (d, b)) (I := Finset.univ) (q := fullShare) (f := V6 m d b)) $$ [HSI H]
    · isplitl [HSI] <;> iassumption
    icases H with %h
    ipureintro
    exact fun _ => funext fun i => h i (Finset.mem_univ _)
  · iintro -
    ipureintro
    exact fun h => absurd h hb

/-! ## The run -/

/-- The arguments end as they began. -/
theorem V6_arg (d : Dev nD) (r : Ref sig .tc) (h0 : r ≠ main_v0) (hc : r ≠ main_cst) (h1 : r ≠ main_v1) (h2 : r ≠ main_v2) (h3 : r ≠ main_v3)
    (h4 : r ≠ main_v4) : V6 m d (Proc.devRef .tc r) = m (d, Proc.devRef .tc r) := by
  unfold V6 V4 V3
  rw [StableHlo.reshape_result_ne (h := h4), StableHlo.unary_result_ne (h := h3),
    Function.update_of_ne (fun e => h2 (Proc.devRef_injective _ e)), StableHlo.unary_result_ne (h := h1),
    StableHlo.nullary_result_ne (h := hc), StableHlo.reshape_result_ne (h := h0)]
  rfl

/-- Every device's result is the operations' value, its arguments are unchanged, and every counter is zero. -/
def QC : PUnit × MemSt nD τ sig (Elt F) → Prop := fun r =>
  (∀ c : Dev nD, r.2.mem ((c.tc : Thread nD τ).loc main_v4) = V6 m c v4'
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0

/-- The program runs, from any memory: it ends, with no fault, as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EHs) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨h c v4' (by decide),
      (h c a0' (by decide)).trans (V6_arg m c main_arg0 (by decide) (by decide) (by decide) (by decide) (by decide) (by decide)),
      (h c a1' (by decide)).trans (V6_arg m c main_arg1 (by decide) (by decide) (by decide) (by decide) (by decide) (by decide)),
      (h c a2' (by decide)).trans (V6_arg m c main_arg2 (by decide) (by decide) (by decide) (by decide) (by decide) (by decide))⟩, hz⟩)

end Cert.Proof.Hot

end
-- ==== Proof.Result.lean ====
/-
  What the two programs leave: the same table, a one in each row at the column that row's word names.
-/
module

public import proofs.«01_k».proof.Proof.Main
public import proofs.«01_k».proof.Proof.Gen.ReferenceIdeal.Run
public import proofs.«01_k».proof.Proof.Gen.Pre_nonnegative
public import Idealize.ShloMosaic.Lib.Routing.OpsSet
public import Idealize.ShloMosaic.Lib.Routing.OpsSearch
public import Idealize.ShloMosaic.Lib.ReduceAll
public import Idealize.ShloMosaic.PureOps.Ideal.Laws

@[expose] public section

noncomputable section

namespace Cert.Proof.Hot

open Idealize.ShloMosaic Idealize.ShloMosaic.ValueIdx

variable {F : FTy → Type} [FloatOps F]

/-- The table: a one in row `r` at the column the row's word holds, zeros elsewhere. -/
def table (A : IVec Cert.KernelIdeal.S16384x1 32) : FVec F Cert.KernelIdeal.S16384x1000 .f32 := fun j =>
  if (A (ix2 (j 0) (0 : Fin 1))).toNat = (j 1).val then Scalar.ofBits .f32 0x3F800000#32 else Scalar.ofBits .f32 0x00000000#32

section Kernel
open Cert.KernelIdeal Cert.KernelIdeal.Gen

variable (m : (ℓ : Loc nD τ sig) → Buf (Elt F) ℓ)

/-- A column laid flat, read at a row. -/
theorem flat_col {α : Type} (x : S16384x1.Idx → α) (h : S16384x1.ShapeCasts S16384) (r : Nat) (hr : r < 16384) :
    shapeCast S16384 x h (wordIx r hr) = x (ix2 (⟨r, hr⟩ : Fin 16384) (0 : Fin 1)) := by
  refine shapeCast_apply _ _ _ _ ?_
  rw [Shape.rowMajor_val_two, Shape.rowMajor_val_one]
  exact Nat.mul_one r

/-- Blocks of eight columns in rows of a hundred and twenty-eight, turned and laid flat, read at a row and a column. -/
theorem flat_blocks {α : Type} (x : S125x128x8x128.Idx → α) (ht : S125x128x8x128.Transposes [1, 3, 0, 2] S128x128x125x8)
    (hf : S128x128x125x8.ShapeCasts S16384x1000) (j : S16384x1000.Idx) (h0 : (j 0).val < 16384) (h1 : (j 1).val < 1000) :
    shapeCast S16384x1000 (transpose S128x128x125x8 [1, 3, 0, 2] x ht) hf j
      = x (ix4 (⟨(j 1).val / 8, by omega⟩ : Fin 125) (⟨(j 0).val / 128, by omega⟩ : Fin 128)
          (⟨(j 1).val % 8, by omega⟩ : Fin 8) (⟨(j 0).val % 128, by omega⟩ : Fin 128)) := by
  refine (shapeCast_apply _ _ j (ix4 (⟨(j 0).val / 128, by omega⟩ : Fin 128) (⟨(j 0).val % 128, by omega⟩ : Fin 128)
    (⟨(j 1).val / 8, by omega⟩ : Fin 125) (⟨(j 1).val % 8, by omega⟩ : Fin 8)) ?_).trans ?_
  · rw [Shape.rowMajor_val_four, Shape.rowMajor_val_two]
    show (((j 0).val / 128 * 128 + (j 0).val % 128) * 125 + (j 1).val / 8) * 8 + (j 1).val % 8 = (j 0).val * 1000 + (j 1).val
    omega
  · refine transpose_apply _ _ _ _ _ fun b => ?_
    match b with
    | ⟨0, _⟩ => rfl
    | ⟨1, _⟩ => rfl
    | ⟨2, _⟩ => rfl
    | ⟨3, _⟩ => rfl

/-- The words the call reads are the second argument's, in order. -/
theorem words_read (d : Dev nD) (r : Nat) (h : r < 16384) :
    Iw m d (wordIx r h) = (m ((d.tc : Thread nD τ).loc main_arg1) : IVec S16384x1 32) (ix2 (⟨r, h⟩ : Fin 16384) (0 : Fin 1)) := by
  unfold Iw V3
  rw [StableHlo.unary_result_ne (h := by decide), StableHlo.nullary_result_ne (h := by decide), StableHlo.reshape_result]
  exact flat_col _ _ r h

/-- The marks, turned and laid flat, are the table. -/
theorem kernel_table (d : Dev nD) :
    V6 m d v4' = (table (F := F) (m ((d.tc : Thread nD τ).loc main_arg1)) : FVec F S16384x1000 .f32) := by
  funext j
  have h0 : (j 0).val < 16384 := (j 0).isLt
  have h1 : (j 1).val < 1000 := (j 1).isLt
  unfold V6
  rw [StableHlo.reshape_result, StableHlo.unary_result]
  have e4 : V4 m d v2' = marks (Iw m d) := by unfold V4; exact Function.update_self ..
  rw [e4]
  refine (flat_blocks _ _ _ j h0 h1).trans ?_
  unfold marks table
  have er : ∀ (r : Nat) (hr : r < 16384), r = (j 0).val →
      Iw m d (wordIx r hr) = (m ((d.tc : Thread nD τ).loc main_arg1) : IVec S16384x1 32) (ix2 (j 0) (0 : Fin 1)) := by
    intro r hr e
    subst e
    exact words_read m d _ hr
  rw [er _ _ (Nat.div_add_mod' (j 0).val 128)]
  have ec : 8 * ((j 1).val / 8) + (j 1).val % 8 = (j 1).val := by omega
  show (if _ = 8 * ((j 1).val / 8) + (j 1).val % 8 then _ else _) = _
  rw [ec]

end Kernel

section Reference
open Cert.ReferenceIdeal Cert.ReferenceIdeal.Gen

/-- A word's wrap of a negative index, at the words of one column: words that are not negative stay. -/
theorem wrap_col (A : IVec S16384x1 32) (n : BitVec 32) (r : Fin 16384) (h : (A (ix2 r (0 : Fin 1))).toNat < 2 ^ 31) :
    select (cmpi .slt A (broadcastInDim S16384x1 ![] bcast_S_S16384x1 (constantI S_ 32 0#32)))
      (addi A (broadcastInDim S16384x1 ![] bcast_S_S16384x1 (constantI S_ 32 n))) A (ix2 r (0 : Fin 1)) = A (ix2 r (0 : Fin 1)) :=
  Routing.wrap_of_lt _ _ h

/-- Two columns of words put side by side: the first word of a pair is the first column's. -/
theorem pair_fst (P Q : IVec S16384x1x1 32) (r : Fin 16384) :
    concatenate S16384x1x2 2 [⟨S16384x1x1, P⟩, ⟨S16384x1x1, Q⟩] concatenates_S16384x1x1_S16384x1x1_S16384x1x2_d2 (ix3 r (0 : Fin 1) (0 : Fin 2))
      = P (ix3 r (0 : Fin 1) (0 : Fin 1)) :=
  concatenate_pair_apply_left (t := S16384x1x2) (s₁ := S16384x1x1) (s₂ := S16384x1x1) _ _ _ _ _ rfl (ix3 r (0 : Fin 1) (0 : Fin 1)) fun b => match b with
    | ⟨0, _⟩ => rfl
    | ⟨1, _⟩ => rfl
    | ⟨2, _⟩ => rfl

/-- The second word of a pair is the second column's. -/
theorem pair_snd (P Q : IVec S16384x1x1 32) (r : Fin 16384) :
    concatenate S16384x1x2 2 [⟨S16384x1x1, P⟩, ⟨S16384x1x1, Q⟩] concatenates_S16384x1x1_S16384x1x1_S16384x1x2_d2 (ix3 r (0 : Fin 1) (1 : Fin 2))
      = Q (ix3 r (0 : Fin 1) (0 : Fin 1)) :=
  concatenate_pair_apply_right (t := S16384x1x2) (s₁ := S16384x1x1) (s₂ := S16384x1x1) _ _ _ _ _ rfl rfl (ix3 r (0 : Fin 1) (0 : Fin 1)) (fun b => match b with
    | ⟨0, _⟩ => fun _ => rfl
    | ⟨1, _⟩ => fun _ => rfl
    | ⟨2, _⟩ => fun h => (h rfl).elim) rfl

/-- The reference's scatter, of words none of which is negative, is the table. -/
theorem reference_table (X : FVec Ideal S16384x1000 .f32) (A : IVec S16384x1 32) (hA : ∀ r : Fin 16384, (A (ix2 r (0 : Fin 1))).toNat < 2 ^ 31) :
    Host.scatter scatter_S16384x1000_S16384x1x2_S16384x1_n_01_01_2 (fun _ b => b) (mulf X (broadcastInDim S16384x1000 ![] bcast_S_S16384x1000 (constant S_ .f32 0x00000000#32))) (concatenate S16384x1x2 2 [⟨S16384x1x1, (broadcastInDim S16384x1x1 ![0, 1] bcast_S16384x1_S16384x1x1_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0))))⟩, ⟨S16384x1x1, (broadcastInDim S16384x1x1 ![0, 1] bcast_S16384x1_S16384x1x1_0_1 (select (cmpi .slt A (broadcastInDim S16384x1 ![] bcast_S_S16384x1 (constantI S_ 32 0#32))) (addi A (broadcastInDim S16384x1 ![] bcast_S_S16384x1 (constantI S_ 32 1000#32))) A))⟩] concatenates_S16384x1x1_S16384x1x1_S16384x1x2_d2) (broadcastInDim S16384x1 ![] bcast_S_S16384x1 (constant S_ .f32 0x3F800000#32))
      = (table (F := Ideal) A : FVec Ideal S16384x1000 .f32) := by
  generalize hW : concatenate S16384x1x2 2 _ _ = W
  have w0 : ∀ r : Fin 16384, (W (ix3 r (0 : Fin 1) (0 : Fin 2))).toInt = r.val := by
    intro r
    have hb : (broadcastInDim S16384x1 ![0] bcast_S16384_S16384x1_0 (iotaInDim S16384 32 0)) (ix2 r (0 : Fin 1)) = BitVec.ofNat 32 r.val :=
      Routing.bcCol _ _ r
    have hn : (BitVec.ofNat 32 r.val).toNat = r.val := by
      rw [BitVec.toNat_ofNat]; exact Nat.mod_eq_of_lt (by have := r.isLt; omega)
    rw [← hW, pair_fst]
    rw [Routing.bcLane, wrap_col _ _ r (by rw [hb, hn]; have := r.isLt; omega), hb, BitVec.toInt_eq_toNat_of_lt (by rw [hn]; have := r.isLt; omega), hn]
  have w1 : ∀ r : Fin 16384, (W (ix3 r (0 : Fin 1) (1 : Fin 2))).toInt = ((A (ix2 r (0 : Fin 1))).toNat : Int) := by
    intro r
    have := hA r
    rw [← hW, pair_snd, Routing.bcLane, wrap_col _ _ r this, BitVec.toInt_eq_toNat_of_lt (by omega)]
  clear hW
  funext j
  have lands : ∀ k : S16384x1.Idx, scatter_S16384x1000_S16384x1x2_S16384x1_n_01_01_2.resultIdx? k W = some j ↔
      (k 0).val = (j 0).val ∧ (A (ix2 (k 0) (0 : Fin 1))).toNat = (j 1).val := by
    intro k
    obtain ⟨r, q, rfl⟩ : ∃ (r : Fin 16384) (q : Fin 1), k = ix2 r q := ⟨k 0, k 1, eq_ix2 k⟩
    obtain rfl : q = 0 := Subsingleton.elim _ _
    have this := (iff_of_eq (congrArg (fun i => scatter_S16384x1000_S16384x1x2_S16384x1_n_01_01_2.resultIdx? (ix2 r (0 : Fin 1)) W = some i) (eq_ix2 j))).trans
      (Routing.scatter_lands2 (R := 16384) (C := 1000) (A := 16384) (B := 1) scatter_S16384x1000_S16384x1x2_S16384x1_n_01_01_2 rfl rfl rfl W r 0 (j 0) (j 1))
    rw [w0, w1] at this
    refine this.trans ?_
    constructor
    · intro h; exact ⟨by exact_mod_cast h.1, by exact_mod_cast h.2⟩
    · intro h; exact ⟨by exact_mod_cast h.1, by exact_mod_cast h.2⟩
  by_cases h : (A (ix2 (j 0) (0 : Fin 1))).toNat = (j 1).val
  · refine (Routing.scatter_set_hit _ _ W _ j (Scalar.ofBits .f32 0x3F800000#32) (fun _ _ => rfl) (ix2 (j 0) (0 : Fin 1)) ((lands _).2 ⟨rfl, h⟩)).trans ?_
    unfold table
    rw [if_pos h]
  · refine (Routing.scatter_set_miss _ _ W _ j fun k hk => h ?_).trans ?_
    · have := (lands k).1 hk
      have e : (k 0 : Fin 16384) = j 0 := Fin.ext this.1
      rw [← e]; exact this.2
    · unfold table
      rw [if_neg h]
      show X j * (Scalar.ofBits .f32 0x00000000#32 : Ideal .f32) = Scalar.ofBits .f32 0x00000000#32
      have z : (Scalar.ofBits .f32 0x00000000#32 : Ideal .f32) = (0 : EReal) := Ideal.ofBits_zero_f32
      rw [z]
      exact mul_zero (M₀ := EReal) (X j)

end Reference

/-- What the precondition says: no word is negative. -/
theorem words_nonneg (X : FVec F Cert.Pre_nonnegative.S16384x1000 .f32) (A : IVec Cert.Pre_nonnegative.S16384x1 32) (N : IVec Cert.Pre_nonnegative.S_ 32)
    (h : Cert.Pre_nonnegative.fn (F := F) X A N = fun _ => 1#1) (r : Fin 16384) : (A (ix2 r (0 : Fin 1))).toNat < 2 ^ 31 := by
  haveI : Subsingleton Cert.Pre_nonnegative.S_.Idx := ⟨fun a b => (eq_ix0 a).trans (eq_ix0 b).symm⟩
  have e := Host.reduce_andi_all _ _ _ _ ix0 (congrFun h ix0) (ix2 r (0 : Fin 1))
  have e' : IntOp.cmpi .sge (A (ix2 r (0 : Fin 1))) 0#32 = 1#1 := e
  rw [WordCmp.cmpi_sge_zero] at e'
  by_contra hn
  rw [decide_eq_false hn] at e'
  exact absurd e' (by decide)

end Cert.Proof.Hot

end
-- ==== Proof.lean ====
/- The claims, proved: every program runs to its end from any memory, faults nowhere, leaves its arguments as they were and
   every counter at zero; the idealized kernel is the kernel's own text; and over words none of which is negative the
   idealized kernel and the reference leave equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_nonnegative
public import proofs.«01_k».proof.Proof.Result
public import Idealize.ShloMosaic.Adequacy
public import Idealize.ShloMosaic.Init

@[expose] public section

noncomputable section

namespace Cert.Proof

open Idealize.ShloMosaic Idealize.SL.Sem

/-- The kernel, as printed, runs from any memory and leaves its arguments and counters as they were. -/
theorem frame_kernel : Cert.quiescent_Kernel := fun m g _ =>
  (θ_run Cert.KernelIdeal.defs _ _).mono (fun _ h => ⟨fun c => (h.1 c).2, h.2⟩) (Hot.run_main (F := Bits) m g)

/-- The idealized kernel does too. -/
theorem frame_ideal : Cert.quiescent_KernelIdeal := fun m g _ =>
  (θ_run Cert.KernelIdeal.defs _ _).mono (fun _ h => ⟨fun c => (h.1 c).2, h.2⟩) (Hot.run_main (F := Ideal) m g)

/-- The reference does too; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over words none of which is negative, the idealized kernel and the reference leave the same table. -/
theorem same_table : Cert.algebraic_KernelIdeal_ReferenceIdeal_pre_nonnegative := by
  intro m g m' g' hpre hagree
  refine ⟨fun c => Hot.V6 m c Hot.v4', (θ_run Cert.KernelIdeal.defs _ _).mono (fun _ h => h.1) (Hot.run_main (F := Ideal) m g), ?_⟩
  refine (θ_run Cert.ReferenceIdeal.defs _ _).mono (fun _ h c => ⟨(h c).1.trans ?_, (h c).2⟩) (Cert.ReferenceIdeal.Value.run (F := Ideal) m' g')
  have hA : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1) := (hagree c).2.1
  refine (Hot.reference_table _ _ fun r => ?_).trans ((congrArg (Hot.table (F := Ideal)) hA).trans (Hot.kernel_table m c).symm)
  rw [hA]
  exact Hot.words_nonneg _ _ _ (hpre c) r

/-- Everything claimed. -/
theorem claim : Cert.Claim :=
  ⟨Cert.Kernel.Gen.facts, Cert.KernelIdeal.Gen.facts, Cert.ReferenceIdeal.Gen.facts, Cert.Pre_nonnegative.Gen.facts,
    frame_kernel, frame_ideal, fun m g _ => frame_ideal m g trivial, frame_reference, fun m g _ => frame_reference m g trivial,
    trivial, same_table⟩

end Cert.Proof

end
